-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x8x16 : Shape := ⟨3, ![32, 8, 16]⟩
abbrev S256x16 : Shape := ⟨2, ![256, 16]⟩
abbrev S256x65536 : Shape := ⟨2, ![256, 65536]⟩
abbrev S16x16 : Shape := ⟨2, ![16, 16]⟩
abbrev S16x65536 : Shape := ⟨2, ![16, 65536]⟩
abbrev S1x16 : Shape := ⟨2, ![1, 16]⟩
abbrev S16 : Shape := ⟨1, ![16]⟩
abbrev S16x1 : Shape := ⟨2, ![16, 1]⟩
abbrev S32x8x65536 : Shape := ⟨3, ![32, 8, 65536]⟩

abbrev nBuf : Space → Nat
  | .hbm => 4
  | .vmem => 4
  | .smem => 0
  | _ => 0

abbrev bufTy : (tb : Table) → Fin (tcTables nBuf tb) → BufTy
  | .hbm, ⟨0, _⟩ => ⟨S32x8x16, .f32⟩
  | .hbm, ⟨1, _⟩ => ⟨S256x16, .f32⟩
  | .hbm, ⟨2, _⟩ => ⟨S256x65536, .f32⟩
  | .hbm, ⟨3, _⟩ => ⟨S32x8x65536, .f32⟩
  | .local _ .vmem, ⟨0, _⟩ => ⟨S16x16, .f32⟩
  | .local _ .vmem, ⟨1, _⟩ => ⟨S16x16, .f32⟩
  | .local _ .vmem, ⟨2, _⟩ => ⟨S16x65536, .f32⟩
  | .local _ .vmem, ⟨3, _⟩ => ⟨S16x65536, .f32⟩
  | _, _ => ⟨S32x8x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x8x16 : Shape := ⟨3, ![32, 8, 16]⟩
abbrev S16 : Shape := ⟨1, ![16]⟩
abbrev S_ : Shape := ⟨0, ![]⟩
abbrev S1 : Shape := ⟨1, ![1]⟩
abbrev S2 : Shape := ⟨1, ![2]⟩
abbrev S1x1x1 : Shape := ⟨3, ![1, 1, 1]⟩
abbrev S1x1x16 : Shape := ⟨3, ![1, 1, 16]⟩
abbrev S32x8 : Shape := ⟨2, ![32, 8]⟩
abbrev S32x8x1 : Shape := ⟨3, ![32, 8, 1]⟩
abbrev S1x1x65536 : Shape := ⟨3, ![1, 1, 65536]⟩
abbrev S32x8x65536 : Shape := ⟨3, ![32, 8, 65536]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8x3 : Shape := ⟨3, ![32, 8, 3]⟩

abbrev nBuf : Space → Nat
  | .hbm => 359
  | .vmem => 0
  | .smem => 0
  | _ => 0

abbrev hbmTy0_0 (i : Nat) : BufTy := match i % 128 with
  | 0 => ⟨S32x8x16, .f32⟩
  | 1 => ⟨S16, .f32⟩
  | 2 => ⟨S32x8x16, .f32⟩
  | 3 => ⟨S32x8x16, .f32⟩
  | 4 => ⟨S_, .f32⟩
  | 5 => ⟨S32x8x16, .f32⟩
  | 6 => ⟨S32x8x16, .f32⟩
  | 7 => ⟨S_, .f32⟩
  | 8 => ⟨S32x8x16, .f32⟩
  | 9 => ⟨S32x8x16, .f32⟩
  | 10 => ⟨S_, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S_, .i32⟩
  | 18 => ⟨S1, .i32⟩
  | 19 => ⟨S2, .i32⟩
  | 20 => ⟨S_, .f32⟩
  | 21 => ⟨S_, .f32⟩
  | 22 => ⟨S_, .f32⟩
  | 23 => ⟨S_, .f32⟩
  | 24 => ⟨S1x1x1, .f32⟩
  | 25 => ⟨S1x1x1, .f32⟩
  | 26 => ⟨S1, .i32⟩
  | 27 => ⟨S_, .i32⟩
  | 28 => ⟨S1, .i32⟩
  | 29 => ⟨S_, .i32⟩
  | 30 => ⟨S32x8x16, .i64⟩
  | 31 => ⟨S32x8x16, .i64⟩
  | 32 => ⟨S32x8x16, .i64⟩
  | 33 => ⟨S_, .i64⟩
  | 34 => ⟨S32x8x16, .i64⟩
  | 35 => ⟨S32x8x16, .i64⟩
  | 36 => ⟨S_, .i64⟩
  | 37 => ⟨S32x8x16, .i64⟩
  | 38 => ⟨S32x8x16, .i64⟩
  | 39 => ⟨S_, .i64⟩
  | 40 => ⟨S32x8x16, .i64⟩
  | 41 => ⟨S32x8x16, .i64⟩
  | 42 => ⟨S32x8x16, .i64⟩
  | 43 => ⟨S32x8x16, .i64⟩
  | 44 => ⟨S_, .i64⟩
  | 45 => ⟨S32x8x16, .i64⟩
  | 46 => ⟨S32x8x16, .i64⟩
  | 47 => ⟨S32x8x16, .i32⟩
  | 48 => ⟨S32x8x16, .i32⟩
  | 49 => ⟨S_, .i32⟩
  | 50 => ⟨S_, .i32⟩
  | 51 => ⟨S_, .i32⟩
  | 52 => ⟨S32x8x16, .i32⟩
  | 53 => ⟨S32x8x16, .i32⟩
  | 54 => ⟨S32x8x16, .i32⟩
  | 55 => ⟨S32x8x16, .i32⟩
  | 56 => ⟨S32x8x16, .i32⟩
  | 57 => ⟨S_, .i32⟩
  | 58 => ⟨S32x8x16, .i32⟩
  | 59 => ⟨S32x8x16, .i32⟩
  | 60 => ⟨S_, .i32⟩
  | 61 => ⟨S32x8x16, .i32⟩
  | 62 => ⟨S32x8x16, .i32⟩
  | 63 => ⟨S32x8x16, .i32⟩
  | 64 => ⟨S32x8x16, .i32⟩
  | 65 => ⟨S32x8x16, .i32⟩
  | 66 => ⟨S_, .i32⟩
  | 67 => ⟨S32x8x16, .i32⟩
  | 68 => ⟨S32x8x16, .i32⟩
  | 69 => ⟨S_, .i32⟩
  | 70 => ⟨S32x8x16, .i32⟩
  | 71 => ⟨S32x8x16, .i32⟩
  | 72 => ⟨S32x8x16, .i32⟩
  | 73 => ⟨S32x8x16, .i32⟩
  | 74 => ⟨S32x8x16, .i32⟩
  | 75 => ⟨S_, .i32⟩
  | 76 => ⟨S32x8x16, .i32⟩
  | 77 => ⟨S32x8x16, .i32⟩
  | 78 => ⟨S_, .i32⟩
  | 79 => ⟨S32x8x16, .i32⟩
  | 80 => ⟨S32x8x16, .i32⟩
  | 81 => ⟨S32x8x16, .i32⟩
  | 82 => ⟨S32x8x16, .i32⟩
  | 83 => ⟨S32x8x16, .i32⟩
  | 84 => ⟨S_, .i32⟩
  | 85 => ⟨S32x8x16, .i32⟩
  | 86 => ⟨S32x8x16, .i32⟩
  | 87 => ⟨S_, .i32⟩
  | 88 => ⟨S32x8x16, .i32⟩
  | 89 => ⟨S32x8x16, .i32⟩
  | 90 => ⟨S32x8x16, .i32⟩
  | 91 => ⟨S32x8x16, .i32⟩
  | 92 => ⟨S32x8x16, .i32⟩
  | 93 => ⟨S32x8x16, .i32⟩
  | 94 => ⟨S32x8x16, .i32⟩
  | 95 => ⟨S32x8x16, .i32⟩
  | 96 => ⟨S_, .i32⟩
  | 97 => ⟨S32x8x16, .i32⟩
  | 98 => ⟨S32x8x16, .i32⟩
  | 99 => ⟨S32x8x16, .i32⟩
  | 100 => ⟨S_, .i32⟩
  | 101 => ⟨S32x8x16, .i32⟩
  | 102 => ⟨S32x8x16, .i32⟩
  | 103 => ⟨S_, .i32⟩
  | 104 => ⟨S32x8x16, .i32⟩
  | 105 => ⟨S32x8x16, .i32⟩
  | 106 => ⟨S32x8x16, .i32⟩
  | 107 => ⟨S32x8x16, .i32⟩
  | 108 => ⟨S32x8x16, .i32⟩
  | 109 => ⟨S_, .i32⟩
  | 110 => ⟨S32x8x16, .i32⟩
  | 111 => ⟨S32x8x16, .i32⟩
  | 112 => ⟨S_, .i32⟩
  | 113 => ⟨S32x8x16, .i32⟩
  | 114 => ⟨S32x8x16, .i32⟩
  | 115 => ⟨S32x8x16, .i32⟩
  | 116 => ⟨S32x8x16, .i32⟩
  | 117 => ⟨S32x8x16, .i32⟩
  | 118 => ⟨S_, .i32⟩
  | 119 => ⟨S32x8x16, .i32⟩
  | 120 => ⟨S32x8x16, .i32⟩
  | 121 => ⟨S_, .i32⟩
  | 122 => ⟨S32x8x16, .i32⟩
  | 123 => ⟨S32x8x16, .i32⟩
  | 124 => ⟨S32x8x16, .i32⟩
  | 125 => ⟨S32x8x16, .i32⟩
  | 126 => ⟨S32x8x16, .i32⟩
  | 127 => ⟨S_, .i32⟩
  | _ => ⟨S32x8x16, .f32⟩

abbrev hbmTy0_1 (i : Nat) : BufTy := match i % 128 with
  | 0 => ⟨S32x8x16, .i32⟩
  | 1 => ⟨S32x8x16, .i32⟩
  | 2 => ⟨S_, .i32⟩
  | 3 => ⟨S32x8x16, .i32⟩
  | 4 => ⟨S32x8x16, .i32⟩
  | 5 => ⟨S32x8x16, .i32⟩
  | 6 => ⟨S32x8x16, .i32⟩
  | 7 => ⟨S32x8x16, .i32⟩
  | 8 => ⟨S32x8x16, .i32⟩
  | 9 => ⟨S32x8x16, .i32⟩
  | 10 => ⟨S32x8x16, .i32⟩
  | 11 => ⟨S_, .i32⟩
  | 12 => ⟨S32x8x16, .i32⟩
  | 13 => ⟨S32x8x16, .i32⟩
  | 14 => ⟨S32x8x16, .i32⟩
  | 15 => ⟨S_, .i32⟩
  | 16 => ⟨S32x8x16, .i32⟩
  | 17 => ⟨S32x8x16, .i32⟩
  | 18 => ⟨S_, .i32⟩
  | 19 => ⟨S32x8x16, .i32⟩
  | 20 => ⟨S32x8x16, .i32⟩
  | 21 => ⟨S32x8x16, .i32⟩
  | 22 => ⟨S32x8x16, .i32⟩
  | 23 => ⟨S32x8x16, .i32⟩
  | 24 => ⟨S_, .i32⟩
  | 25 => ⟨S32x8x16, .i32⟩
  | 26 => ⟨S32x8x16, .i32⟩
  | 27 => ⟨S_, .i32⟩
  | 28 => ⟨S32x8x16, .i32⟩
  | 29 => ⟨S32x8x16, .i32⟩
  | 30 => ⟨S32x8x16, .i32⟩
  | 31 => ⟨S32x8x16, .i32⟩
  | 32 => ⟨S32x8x16, .i32⟩
  | 33 => ⟨S_, .i32⟩
  | 34 => ⟨S32x8x16, .i32⟩
  | 35 => ⟨S32x8x16, .i32⟩
  | 36 => ⟨S_, .i32⟩
  | 37 => ⟨S32x8x16, .i32⟩
  | 38 => ⟨S32x8x16, .i32⟩
  | 39 => ⟨S32x8x16, .i32⟩
  | 40 => ⟨S32x8x16, .i32⟩
  | 41 => ⟨S32x8x16, .i32⟩
  | 42 => ⟨S_, .i32⟩
  | 43 => ⟨S32x8x16, .i32⟩
  | 44 => ⟨S32x8x16, .i32⟩
  | 45 => ⟨S_, .i32⟩
  | 46 => ⟨S32x8x16, .i32⟩
  | 47 => ⟨S32x8x16, .i32⟩
  | 48 => ⟨S32x8x16, .i32⟩
  | 49 => ⟨S32x8x16, .i32⟩
  | 50 => ⟨S32x8x16, .i32⟩
  | 51 => ⟨S32x8x16, .i32⟩
  | 52 => ⟨S32x8x16, .i32⟩
  | 53 => ⟨S32x8x16, .i32⟩
  | 54 => ⟨S_, .i32⟩
  | 55 => ⟨S32x8x16, .i32⟩
  | 56 => ⟨S32x8x16, .i32⟩
  | 57 => ⟨S32x8x16, .i32⟩
  | 58 => ⟨S_, .i32⟩
  | 59 => ⟨S32x8x16, .i32⟩
  | 60 => ⟨S32x8x16, .i32⟩
  | 61 => ⟨S_, .i32⟩
  | 62 => ⟨S32x8x16, .i32⟩
  | 63 => ⟨S32x8x16, .i32⟩
  | 64 => ⟨S32x8x16, .i32⟩
  | 65 => ⟨S32x8x16, .i32⟩
  | 66 => ⟨S32x8x16, .i32⟩
  | 67 => ⟨S_, .i32⟩
  | 68 => ⟨S32x8x16, .i32⟩
  | 69 => ⟨S32x8x16, .i32⟩
  | 70 => ⟨S_, .i32⟩
  | 71 => ⟨S32x8x16, .i32⟩
  | 72 => ⟨S32x8x16, .i32⟩
  | 73 => ⟨S32x8x16, .i32⟩
  | 74 => ⟨S32x8x16, .i32⟩
  | 75 => ⟨S32x8x16, .i32⟩
  | 76 => ⟨S_, .i32⟩
  | 77 => ⟨S32x8x16, .i32⟩
  | 78 => ⟨S32x8x16, .i32⟩
  | 79 => ⟨S_, .i32⟩
  | 80 => ⟨S32x8x16, .i32⟩
  | 81 => ⟨S32x8x16, .i32⟩
  | 82 => ⟨S32x8x16, .i32⟩
  | 83 => ⟨S32x8x16, .i32⟩
  | 84 => ⟨S32x8x16, .i32⟩
  | 85 => ⟨S_, .i32⟩
  | 86 => ⟨S32x8x16, .i32⟩
  | 87 => ⟨S32x8x16, .i32⟩
  | 88 => ⟨S_, .i32⟩
  | 89 => ⟨S32x8x16, .i32⟩
  | 90 => ⟨S32x8x16, .i32⟩
  | 91 => ⟨S32x8x16, .i32⟩
  | 92 => ⟨S32x8x16, .i32⟩
  | 93 => ⟨S32x8x16, .i32⟩
  | 94 => ⟨S32x8x16, .i32⟩
  | 95 => ⟨S32x8x16, .i32⟩
  | 96 => ⟨S32x8x16, .i32⟩
  | 97 => ⟨S_, .i32⟩
  | 98 => ⟨S32x8x16, .i32⟩
  | 99 => ⟨S32x8x16, .i32⟩
  | 100 => ⟨S32x8x16, .i32⟩
  | 101 => ⟨S_, .i32⟩
  | 102 => ⟨S32x8x16, .i32⟩
  | 103 => ⟨S32x8x16, .i32⟩
  | 104 => ⟨S_, .i32⟩
  | 105 => ⟨S32x8x16, .i32⟩
  | 106 => ⟨S32x8x16, .i32⟩
  | 107 => ⟨S32x8x16, .i32⟩
  | 108 => ⟨S32x8x16, .i32⟩
  | 109 => ⟨S32x8x16, .i32⟩
  | 110 => ⟨S_, .i32⟩
  | 111 => ⟨S32x8x16, .i32⟩
  | 112 => ⟨S32x8x16, .i32⟩
  | 113 => ⟨S_, .i32⟩
  | 114 => ⟨S32x8x16, .i32⟩
  | 115 => ⟨S32x8x16, .i32⟩
  | 116 => ⟨S32x8x16, .i32⟩
  | 117 => ⟨S32x8x16, .i32⟩
  | 118 => ⟨S32x8x16, .i32⟩
  | 119 => ⟨S_, .i32⟩
  | 120 => ⟨S32x8x16, .i32⟩
  | 121 => ⟨S32x8x16, .i32⟩
  | 122 => ⟨S_, .i32⟩
  | 123 => ⟨S32x8x16, .i32⟩
  | 124 => ⟨S32x8x16, .i32⟩
  | 125 => ⟨S32x8x16, .i32⟩
  | 126 => ⟨S32x8x16, .i32⟩
  | 127 => ⟨S32x8x16, .i32⟩
  | _ => ⟨S32x8x16, .f32⟩

abbrev hbmTy0_2 (i : Nat) : BufTy := match i % 128 with
  | 0 => ⟨S_, .i32⟩
  | 1 => ⟨S32x8x16, .i32⟩
  | 2 => ⟨S32x8x16, .i32⟩
  | 3 => ⟨S_, .i32⟩
  | 4 => ⟨S32x8x16, .i32⟩
  | 5 => ⟨S32x8x16, .i32⟩
  | 6 => ⟨S32x8x16, .i32⟩
  | 7 => ⟨S32x8x16, .i32⟩
  | 8 => ⟨S32x8x16, .i32⟩
  | 9 => ⟨S32x8x16, .i32⟩
  | 10 => ⟨S32x8x16, .i32⟩
  | 11 => ⟨S32x8x16, .i32⟩
  | 12 => ⟨S_, .i32⟩
  | 13 => ⟨S32x8x16, .i32⟩
  | 14 => ⟨S32x8x16, .i32⟩
  | 15 => ⟨S32x8x16, .i32⟩
  | 16 => ⟨S_, .i32⟩
  | 17 => ⟨S32x8x16, .i32⟩
  | 18 => ⟨S32x8x16, .i32⟩
  | 19 => ⟨S_, .i32⟩
  | 20 => ⟨S32x8x16, .i32⟩
  | 21 => ⟨S32x8x16, .i32⟩
  | 22 => ⟨S32x8x16, .f32⟩
  | 23 => ⟨S_, .f32⟩
  | 24 => ⟨S32x8x16, .f32⟩
  | 25 => ⟨S32x8x16, .f32⟩
  | 26 => ⟨S1x1x1, .f32⟩
  | 27 => ⟨S32x8x16, .f32⟩
  | 28 => ⟨S32x8x16, .f32⟩
  | 29 => ⟨S32x8x16, .f32⟩
  | 30 => ⟨S32x8x16, .f32⟩
  | 31 => ⟨S32x8x16, .f32⟩
  | 32 => ⟨S32x8x16, .f32⟩
  | 33 => ⟨S32x8x16, .i1⟩
  | 34 => ⟨S32x8x16, .f32⟩
  | 35 => ⟨S1x1x16, .f32⟩
  | 36 => ⟨S32x8x16, .f32⟩
  | 37 => ⟨S32x8x16, .f32⟩
  | 38 => ⟨S_, .f32⟩
  | 39 => ⟨S32x8, .f32⟩
  | 40 => ⟨S32x8, .i32⟩
  | 41 => ⟨S32x8x1, .i32⟩
  | 42 => ⟨S1x1x65536, .i32⟩
  | 43 => ⟨S32x8x65536, .i32⟩
  | 44 => ⟨S32x8x65536, .i32⟩
  | 45 => ⟨S32x8x65536, .i1⟩
  | 46 => ⟨S32x8x65536, .f32⟩
  | 47 => ⟨S_, .f32⟩
  | 48 => ⟨S32x8x16, .f32⟩
  | 49 => ⟨S32x8x16, .f32⟩
  | 50 => ⟨S32x8x16, .f32⟩
  | 51 => ⟨S32x8x16, .f32⟩
  | 52 => ⟨S_, .f32⟩
  | 53 => ⟨S32x8x16, .f32⟩
  | 54 => ⟨S32x8x16, .f32⟩
  | 55 => ⟨S_, .f32⟩
  | 56 => ⟨S32x8x16, .f32⟩
  | 57 => ⟨S32x8x16, .f32⟩
  | 58 => ⟨S_, .f32⟩
  | 59 => ⟨S32x8x16, .f32⟩
  | 60 => ⟨S32x8x16, .f32⟩
  | 61 => ⟨S32x8x16, .f32⟩
  | 62 => ⟨S32x8x16, .f32⟩
  | 63 => ⟨S32x8x16, .f32⟩
  | 64 => ⟨S_, .f32⟩
  | 65 => ⟨S32x8, .f32⟩
  | 66 => ⟨S32x8, .f32⟩
  | 67 => ⟨S32, .i32⟩
  | 68 => ⟨S32x1, .i32⟩
  | 69 => ⟨S8, .i32⟩
  | 70 => ⟨S1x8, .i32⟩
  | 71 => ⟨S_, .f32⟩
  | 72 => ⟨S32x8x65536, .f32⟩
  | 73 => ⟨S_, .i32⟩
  | 74 => ⟨S32x1, .i32⟩
  | 75 => ⟨S32x1, .i1⟩
  | 76 => ⟨S_, .i32⟩
  | 77 => ⟨S32x1, .i32⟩
  | 78 => ⟨S32x1, .i32⟩
  | 79 => ⟨S32x1, .i32⟩
  | 80 => ⟨S_, .i32⟩
  | 81 => ⟨S1x8, .i32⟩
  | 82 => ⟨S1x8, .i1⟩
  | 83 => ⟨S_, .i32⟩
  | 84 => ⟨S1x8, .i32⟩
  | 85 => ⟨S1x8, .i32⟩
  | 86 => ⟨S1x8, .i32⟩
  | 87 => ⟨S_, .i32⟩
  | 88 => ⟨S32x8, .i32⟩
  | 89 => ⟨S32x8, .i1⟩
  | 90 => ⟨S_, .i32⟩
  | 91 => ⟨S32x8, .i32⟩
  | 92 => ⟨S32x8, .i32⟩
  | 93 => ⟨S32x8, .i32⟩
  | 94 => ⟨S32x8, .i32⟩
  | 95 => ⟨S32x8, .i32⟩
  | 96 => ⟨S32x8x1, .i32⟩
  | 97 => ⟨S32x8x1, .i32⟩
  | 98 => ⟨S32x8x1, .i32⟩
  | 99 => ⟨S32x8x3, .i32⟩
  | 100 => ⟨S32x8x65536, .f32⟩
  | 101 => ⟨S32x8x65536, .f32⟩
  | 102 => ⟨S32x8x65536, .f32⟩
  | _ => ⟨S32x8x16, .f32⟩

abbrev hbmTy (i : Nat) : BufTy := match i / 128 with
  | 0 => hbmTy0_0 i
  | 1 => hbmTy0_1 i
  | 2 => hbmTy0_2 i
  | _ => ⟨S32x8x16, .f32⟩

abbrev bufTy : (tb : Table) → Fin (tcTables nBuf tb) → BufTy
  | .hbm, ⟨i, _⟩ => hbmTy i
  | _, _ => ⟨S32x8x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_cst_5 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_c : Ref sig .tc := ⟨.hbm, 33, rfl⟩
abbrev main_call0_v11 : Ref sig .tc := ⟨.hbm, 34, rfl⟩
abbrev main_call0_v12 : Ref sig .tc := ⟨.hbm, 35, rfl⟩
abbrev main_call0_c_0 : Ref sig .tc := ⟨.hbm, 36, rfl⟩
abbrev main_call0_v13 : Ref sig .tc := ⟨.hbm, 37, rfl⟩
abbrev main_call0_v14 : Ref sig .tc := ⟨.hbm, 38, rfl⟩
abbrev main_call0_c_1 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18 : Ref sig .tc := ⟨.hbm, 43, rfl⟩
abbrev main_call0_c_2 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_call0_v22 : Ref sig .tc := ⟨.hbm, 48, rfl⟩
abbrev main_call0_call0_v0 : Ref sig .tc := ⟨.hbm, 49, rfl⟩
abbrev main_call0_call0_c : Ref sig .tc := ⟨.hbm, 50, rfl⟩
abbrev main_call0_call0_v1 : Ref sig .tc := ⟨.hbm, 51, rfl⟩
abbrev main_call0_call0_v2 : Ref sig .tc := ⟨.hbm, 52, rfl⟩
abbrev main_call0_call0_v3 : Ref sig .tc := ⟨.hbm, 53, rfl⟩
abbrev main_call0_call0_v4 : Ref sig .tc := ⟨.hbm, 54, rfl⟩
abbrev main_call0_call0_v5 : Ref sig .tc := ⟨.hbm, 55, rfl⟩
abbrev main_call0_call0_v6 : Ref sig .tc := ⟨.hbm, 56, rfl⟩
abbrev main_call0_call0_c_0 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_c_1 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_call0_v12 : Ref sig .tc := ⟨.hbm, 64, rfl⟩
abbrev main_call0_call0_v13 : Ref sig .tc := ⟨.hbm, 65, rfl⟩
abbrev main_call0_call0_c_2 : Ref sig .tc := ⟨.hbm, 66, rfl⟩
abbrev main_call0_call0_v14 : Ref sig .tc := ⟨.hbm, 67, rfl⟩
abbrev main_call0_call0_v15 : Ref sig .tc := ⟨.hbm, 68, rfl⟩
abbrev main_call0_call0_c_3 : Ref sig .tc := ⟨.hbm, 69, rfl⟩
abbrev main_call0_call0_v16 : Ref sig .tc := ⟨.hbm, 70, rfl⟩
abbrev main_call0_call0_v17 : Ref sig .tc := ⟨.hbm, 71, rfl⟩
abbrev main_call0_call0_v18 : Ref sig .tc := ⟨.hbm, 72, rfl⟩
abbrev main_call0_call0_v19 : Ref sig .tc := ⟨.hbm, 73, rfl⟩
abbrev main_call0_call0_v20 : Ref sig .tc := ⟨.hbm, 74, rfl⟩
abbrev main_call0_call0_c_4 : Ref sig .tc := ⟨.hbm, 75, rfl⟩
abbrev main_call0_call0_v21 : Ref sig .tc := ⟨.hbm, 76, rfl⟩
abbrev main_call0_call0_v22 : Ref sig .tc := ⟨.hbm, 77, rfl⟩
abbrev main_call0_call0_c_5 : Ref sig .tc := ⟨.hbm, 78, rfl⟩
abbrev main_call0_call0_v23 : Ref sig .tc := ⟨.hbm, 79, rfl⟩
abbrev main_call0_call0_v24 : Ref sig .tc := ⟨.hbm, 80, rfl⟩
abbrev main_call0_call0_v25 : Ref sig .tc := ⟨.hbm, 81, rfl⟩
abbrev main_call0_call0_v26 : Ref sig .tc := ⟨.hbm, 82, rfl⟩
abbrev main_call0_call0_v27 : Ref sig .tc := ⟨.hbm, 83, rfl⟩
abbrev main_call0_call0_c_6 : Ref sig .tc := ⟨.hbm, 84, rfl⟩
abbrev main_call0_call0_v28 : Ref sig .tc := ⟨.hbm, 85, rfl⟩
abbrev main_call0_call0_v29 : Ref sig .tc := ⟨.hbm, 86, rfl⟩
abbrev main_call0_call0_c_7 : Ref sig .tc := ⟨.hbm, 87, rfl⟩
abbrev main_call0_call0_v30 : Ref sig .tc := ⟨.hbm, 88, rfl⟩
abbrev main_call0_call0_v31 : Ref sig .tc := ⟨.hbm, 89, rfl⟩
abbrev main_call0_call0_v32 : Ref sig .tc := ⟨.hbm, 90, rfl⟩
abbrev main_call0_call0_v33 : Ref sig .tc := ⟨.hbm, 91, rfl⟩
abbrev main_call0_call0_v34 : Ref sig .tc := ⟨.hbm, 92, rfl⟩
abbrev main_call0_call0_v35 : Ref sig .tc := ⟨.hbm, 93, rfl⟩
abbrev main_call0_call0_v36 : Ref sig .tc := ⟨.hbm, 94, rfl⟩
abbrev main_call0_call0_v37 : Ref sig .tc := ⟨.hbm, 95, rfl⟩
abbrev main_call0_call0_c_8 : Ref sig .tc := ⟨.hbm, 96, rfl⟩
abbrev main_call0_call0_v38 : Ref sig .tc := ⟨.hbm, 97, rfl⟩
abbrev main_call0_call0_v39 : Ref sig .tc := ⟨.hbm, 98, rfl⟩
abbrev main_call0_call0_v40 : Ref sig .tc := ⟨.hbm, 99, rfl⟩
abbrev main_call0_call0_c_9 : Ref sig .tc := ⟨.hbm, 100, rfl⟩
abbrev main_call0_call0_v41 : Ref sig .tc := ⟨.hbm, 101, rfl⟩
abbrev main_call0_call0_v42 : Ref sig .tc := ⟨.hbm, 102, rfl⟩
abbrev main_call0_call0_c_10 : Ref sig .tc := ⟨.hbm, 103, rfl⟩
abbrev main_call0_call0_v43 : Ref sig .tc := ⟨.hbm, 104, rfl⟩
abbrev main_call0_call0_v44 : Ref sig .tc := ⟨.hbm, 105, rfl⟩
abbrev main_call0_call0_v45 : Ref sig .tc := ⟨.hbm, 106, rfl⟩
abbrev main_call0_call0_v46 : Ref sig .tc := ⟨.hbm, 107, rfl⟩
abbrev main_call0_call0_v47 : Ref sig .tc := ⟨.hbm, 108, rfl⟩
abbrev main_call0_call0_c_11 : Ref sig .tc := ⟨.hbm, 109, rfl⟩
abbrev main_call0_call0_v48 : Ref sig .tc := ⟨.hbm, 110, rfl⟩
abbrev main_call0_call0_v49 : Ref sig .tc := ⟨.hbm, 111, rfl⟩
abbrev main_call0_call0_c_12 : Ref sig .tc := ⟨.hbm, 112, rfl⟩
abbrev main_call0_call0_v50 : Ref sig .tc := ⟨.hbm, 113, rfl⟩
abbrev main_call0_call0_v51 : Ref sig .tc := ⟨.hbm, 114, rfl⟩
abbrev main_call0_call0_v52 : Ref sig .tc := ⟨.hbm, 115, rfl⟩
abbrev main_call0_call0_v53 : Ref sig .tc := ⟨.hbm, 116, rfl⟩
abbrev main_call0_call0_v54 : Ref sig .tc := ⟨.hbm, 117, rfl⟩
abbrev main_call0_call0_c_13 : Ref sig .tc := ⟨.hbm, 118, rfl⟩
abbrev main_call0_call0_v55 : Ref sig .tc := ⟨.hbm, 119, rfl⟩
abbrev main_call0_call0_v56 : Ref sig .tc := ⟨.hbm, 120, rfl⟩
abbrev main_call0_call0_c_14 : Ref sig .tc := ⟨.hbm, 121, rfl⟩
abbrev main_call0_call0_v57 : Ref sig .tc := ⟨.hbm, 122, rfl⟩
abbrev main_call0_call0_v58 : Ref sig .tc := ⟨.hbm, 123, rfl⟩
abbrev main_call0_call0_v59 : Ref sig .tc := ⟨.hbm, 124, rfl⟩
abbrev main_call0_call0_v60 : Ref sig .tc := ⟨.hbm, 125, rfl⟩
abbrev main_call0_call0_v61 : Ref sig .tc := ⟨.hbm, 126, rfl⟩
abbrev main_call0_call0_c_15 : Ref sig .tc := ⟨.hbm, 127, rfl⟩
abbrev main_call0_call0_v62 : Ref sig .tc := ⟨.hbm, 128, rfl⟩
abbrev main_call0_call0_v63 : Ref sig .tc := ⟨.hbm, 129, rfl⟩
abbrev main_call0_call0_c_16 : Ref sig .tc := ⟨.hbm, 130, rfl⟩
abbrev main_call0_call0_v64 : Ref sig .tc := ⟨.hbm, 131, rfl⟩
abbrev main_call0_call0_v65 : Ref sig .tc := ⟨.hbm, 132, rfl⟩
abbrev main_call0_call0_v66 : Ref sig .tc := ⟨.hbm, 133, rfl⟩
abbrev main_call0_call0_v67 : Ref sig .tc := ⟨.hbm, 134, rfl⟩
abbrev main_call0_call0_v68 : Ref sig .tc := ⟨.hbm, 135, rfl⟩
abbrev main_call0_call0_v69 : Ref sig .tc := ⟨.hbm, 136, rfl⟩
abbrev main_call0_call0_v70 : Ref sig .tc := ⟨.hbm, 137, rfl⟩
abbrev main_call0_call0_v71 : Ref sig .tc := ⟨.hbm, 138, rfl⟩
abbrev main_call0_call0_c_17 : Ref sig .tc := ⟨.hbm, 139, rfl⟩
abbrev main_call0_call0_v72 : Ref sig .tc := ⟨.hbm, 140, rfl⟩
abbrev main_call0_call0_v73 : Ref sig .tc := ⟨.hbm, 141, rfl⟩
abbrev main_call0_call0_v74 : Ref sig .tc := ⟨.hbm, 142, rfl⟩
abbrev main_call0_call0_c_18 : Ref sig .tc := ⟨.hbm, 143, rfl⟩
abbrev main_call0_call0_v75 : Ref sig .tc := ⟨.hbm, 144, rfl⟩
abbrev main_call0_call0_v76 : Ref sig .tc := ⟨.hbm, 145, rfl⟩
abbrev main_call0_call0_c_19 : Ref sig .tc := ⟨.hbm, 146, rfl⟩
abbrev main_call0_call0_v77 : Ref sig .tc := ⟨.hbm, 147, rfl⟩
abbrev main_call0_call0_v78 : Ref sig .tc := ⟨.hbm, 148, rfl⟩
abbrev main_call0_call0_v79 : Ref sig .tc := ⟨.hbm, 149, rfl⟩
abbrev main_call0_call0_v80 : Ref sig .tc := ⟨.hbm, 150, rfl⟩
abbrev main_call0_call0_v81 : Ref sig .tc := ⟨.hbm, 151, rfl⟩
abbrev main_call0_call0_c_20 : Ref sig .tc := ⟨.hbm, 152, rfl⟩
abbrev main_call0_call0_v82 : Ref sig .tc := ⟨.hbm, 153, rfl⟩
abbrev main_call0_call0_v83 : Ref sig .tc := ⟨.hbm, 154, rfl⟩
abbrev main_call0_call0_c_21 : Ref sig .tc := ⟨.hbm, 155, rfl⟩
abbrev main_call0_call0_v84 : Ref sig .tc := ⟨.hbm, 156, rfl⟩
abbrev main_call0_call0_v85 : Ref sig .tc := ⟨.hbm, 157, rfl⟩
abbrev main_call0_call0_v86 : Ref sig .tc := ⟨.hbm, 158, rfl⟩
abbrev main_call0_call0_v87 : Ref sig .tc := ⟨.hbm, 159, rfl⟩
abbrev main_call0_call0_v88 : Ref sig .tc := ⟨.hbm, 160, rfl⟩
abbrev main_call0_call0_c_22 : Ref sig .tc := ⟨.hbm, 161, rfl⟩
abbrev main_call0_call0_v89 : Ref sig .tc := ⟨.hbm, 162, rfl⟩
abbrev main_call0_call0_v90 : Ref sig .tc := ⟨.hbm, 163, rfl⟩
abbrev main_call0_call0_c_23 : Ref sig .tc := ⟨.hbm, 164, rfl⟩
abbrev main_call0_call0_v91 : Ref sig .tc := ⟨.hbm, 165, rfl⟩
abbrev main_call0_call0_v92 : Ref sig .tc := ⟨.hbm, 166, rfl⟩
abbrev main_call0_call0_v93 : Ref sig .tc := ⟨.hbm, 167, rfl⟩
abbrev main_call0_call0_v94 : Ref sig .tc := ⟨.hbm, 168, rfl⟩
abbrev main_call0_call0_v95 : Ref sig .tc := ⟨.hbm, 169, rfl⟩
abbrev main_call0_call0_c_24 : Ref sig .tc := ⟨.hbm, 170, rfl⟩
abbrev main_call0_call0_v96 : Ref sig .tc := ⟨.hbm, 171, rfl⟩
abbrev main_call0_call0_v97 : Ref sig .tc := ⟨.hbm, 172, rfl⟩
abbrev main_call0_call0_c_25 : Ref sig .tc := ⟨.hbm, 173, rfl⟩
abbrev main_call0_call0_v98 : Ref sig .tc := ⟨.hbm, 174, rfl⟩
abbrev main_call0_call0_v99 : Ref sig .tc := ⟨.hbm, 175, rfl⟩
abbrev main_call0_call0_v100 : Ref sig .tc := ⟨.hbm, 176, rfl⟩
abbrev main_call0_call0_v101 : Ref sig .tc := ⟨.hbm, 177, rfl⟩
abbrev main_call0_call0_v102 : Ref sig .tc := ⟨.hbm, 178, rfl⟩
abbrev main_call0_call0_v103 : Ref sig .tc := ⟨.hbm, 179, rfl⟩
abbrev main_call0_call0_v104 : Ref sig .tc := ⟨.hbm, 180, rfl⟩
abbrev main_call0_call0_v105 : Ref sig .tc := ⟨.hbm, 181, rfl⟩
abbrev main_call0_call0_c_26 : Ref sig .tc := ⟨.hbm, 182, rfl⟩
abbrev main_call0_call0_v106 : Ref sig .tc := ⟨.hbm, 183, rfl⟩
abbrev main_call0_call0_v107 : Ref sig .tc := ⟨.hbm, 184, rfl⟩
abbrev main_call0_call0_v108 : Ref sig .tc := ⟨.hbm, 185, rfl⟩
abbrev main_call0_call0_c_27 : Ref sig .tc := ⟨.hbm, 186, rfl⟩
abbrev main_call0_call0_v109 : Ref sig .tc := ⟨.hbm, 187, rfl⟩
abbrev main_call0_call0_v110 : Ref sig .tc := ⟨.hbm, 188, rfl⟩
abbrev main_call0_call0_c_28 : Ref sig .tc := ⟨.hbm, 189, rfl⟩
abbrev main_call0_call0_v111 : Ref sig .tc := ⟨.hbm, 190, rfl⟩
abbrev main_call0_call0_v112 : Ref sig .tc := ⟨.hbm, 191, rfl⟩
abbrev main_call0_call0_v113 : Ref sig .tc := ⟨.hbm, 192, rfl⟩
abbrev main_call0_call0_v114 : Ref sig .tc := ⟨.hbm, 193, rfl⟩
abbrev main_call0_call0_v115 : Ref sig .tc := ⟨.hbm, 194, rfl⟩
abbrev main_call0_call0_c_29 : Ref sig .tc := ⟨.hbm, 195, rfl⟩
abbrev main_call0_call0_v116 : Ref sig .tc := ⟨.hbm, 196, rfl⟩
abbrev main_call0_call0_v117 : Ref sig .tc := ⟨.hbm, 197, rfl⟩
abbrev main_call0_call0_c_30 : Ref sig .tc := ⟨.hbm, 198, rfl⟩
abbrev main_call0_call0_v118 : Ref sig .tc := ⟨.hbm, 199, rfl⟩
abbrev main_call0_call0_v119 : Ref sig .tc := ⟨.hbm, 200, rfl⟩
abbrev main_call0_call0_v120 : Ref sig .tc := ⟨.hbm, 201, rfl⟩
abbrev main_call0_call0_v121 : Ref sig .tc := ⟨.hbm, 202, rfl⟩
abbrev main_call0_call0_v122 : Ref sig .tc := ⟨.hbm, 203, rfl⟩
abbrev main_call0_call0_c_31 : Ref sig .tc := ⟨.hbm, 204, rfl⟩
abbrev main_call0_call0_v123 : Ref sig .tc := ⟨.hbm, 205, rfl⟩
abbrev main_call0_call0_v124 : Ref sig .tc := ⟨.hbm, 206, rfl⟩
abbrev main_call0_call0_c_32 : Ref sig .tc := ⟨.hbm, 207, rfl⟩
abbrev main_call0_call0_v125 : Ref sig .tc := ⟨.hbm, 208, rfl⟩
abbrev main_call0_call0_v126 : Ref sig .tc := ⟨.hbm, 209, rfl⟩
abbrev main_call0_call0_v127 : Ref sig .tc := ⟨.hbm, 210, rfl⟩
abbrev main_call0_call0_v128 : Ref sig .tc := ⟨.hbm, 211, rfl⟩
abbrev main_call0_call0_v129 : Ref sig .tc := ⟨.hbm, 212, rfl⟩
abbrev main_call0_call0_c_33 : Ref sig .tc := ⟨.hbm, 213, rfl⟩
abbrev main_call0_call0_v130 : Ref sig .tc := ⟨.hbm, 214, rfl⟩
abbrev main_call0_call0_v131 : Ref sig .tc := ⟨.hbm, 215, rfl⟩
abbrev main_call0_call0_c_34 : Ref sig .tc := ⟨.hbm, 216, rfl⟩
abbrev main_call0_call0_v132 : Ref sig .tc := ⟨.hbm, 217, rfl⟩
abbrev main_call0_call0_v133 : Ref sig .tc := ⟨.hbm, 218, rfl⟩
abbrev main_call0_call0_v134 : Ref sig .tc := ⟨.hbm, 219, rfl⟩
abbrev main_call0_call0_v135 : Ref sig .tc := ⟨.hbm, 220, rfl⟩
abbrev main_call0_call0_v136 : Ref sig .tc := ⟨.hbm, 221, rfl⟩
abbrev main_call0_call0_v137 : Ref sig .tc := ⟨.hbm, 222, rfl⟩
abbrev main_call0_call0_v138 : Ref sig .tc := ⟨.hbm, 223, rfl⟩
abbrev main_call0_call0_v139 : Ref sig .tc := ⟨.hbm, 224, rfl⟩
abbrev main_call0_call0_c_35 : Ref sig .tc := ⟨.hbm, 225, rfl⟩
abbrev main_call0_call0_v140 : Ref sig .tc := ⟨.hbm, 226, rfl⟩
abbrev main_call0_call0_v141 : Ref sig .tc := ⟨.hbm, 227, rfl⟩
abbrev main_call0_call0_v142 : Ref sig .tc := ⟨.hbm, 228, rfl⟩
abbrev main_call0_call0_c_36 : Ref sig .tc := ⟨.hbm, 229, rfl⟩
abbrev main_call0_call0_v143 : Ref sig .tc := ⟨.hbm, 230, rfl⟩
abbrev main_call0_call0_v144 : Ref sig .tc := ⟨.hbm, 231, rfl⟩
abbrev main_call0_call0_c_37 : Ref sig .tc := ⟨.hbm, 232, rfl⟩
abbrev main_call0_call0_v145 : Ref sig .tc := ⟨.hbm, 233, rfl⟩
abbrev main_call0_call0_v146 : Ref sig .tc := ⟨.hbm, 234, rfl⟩
abbrev main_call0_call0_v147 : Ref sig .tc := ⟨.hbm, 235, rfl⟩
abbrev main_call0_call0_v148 : Ref sig .tc := ⟨.hbm, 236, rfl⟩
abbrev main_call0_call0_v149 : Ref sig .tc := ⟨.hbm, 237, rfl⟩
abbrev main_call0_call0_c_38 : Ref sig .tc := ⟨.hbm, 238, rfl⟩
abbrev main_call0_call0_v150 : Ref sig .tc := ⟨.hbm, 239, rfl⟩
abbrev main_call0_call0_v151 : Ref sig .tc := ⟨.hbm, 240, rfl⟩
abbrev main_call0_call0_c_39 : Ref sig .tc := ⟨.hbm, 241, rfl⟩
abbrev main_call0_call0_v152 : Ref sig .tc := ⟨.hbm, 242, rfl⟩
abbrev main_call0_call0_v153 : Ref sig .tc := ⟨.hbm, 243, rfl⟩
abbrev main_call0_call0_v154 : Ref sig .tc := ⟨.hbm, 244, rfl⟩
abbrev main_call0_call0_v155 : Ref sig .tc := ⟨.hbm, 245, rfl⟩
abbrev main_call0_call0_v156 : Ref sig .tc := ⟨.hbm, 246, rfl⟩
abbrev main_call0_call0_c_40 : Ref sig .tc := ⟨.hbm, 247, rfl⟩
abbrev main_call0_call0_v157 : Ref sig .tc := ⟨.hbm, 248, rfl⟩
abbrev main_call0_call0_v158 : Ref sig .tc := ⟨.hbm, 249, rfl⟩
abbrev main_call0_call0_c_41 : Ref sig .tc := ⟨.hbm, 250, rfl⟩
abbrev main_call0_call0_v159 : Ref sig .tc := ⟨.hbm, 251, rfl⟩
abbrev main_call0_call0_v160 : Ref sig .tc := ⟨.hbm, 252, rfl⟩
abbrev main_call0_call0_v161 : Ref sig .tc := ⟨.hbm, 253, rfl⟩
abbrev main_call0_call0_v162 : Ref sig .tc := ⟨.hbm, 254, rfl⟩
abbrev main_call0_call0_v163 : Ref sig .tc := ⟨.hbm, 255, rfl⟩
abbrev main_call0_call0_c_42 : Ref sig .tc := ⟨.hbm, 256, rfl⟩
abbrev main_call0_call0_v164 : Ref sig .tc := ⟨.hbm, 257, rfl⟩
abbrev main_call0_call0_v165 : Ref sig .tc := ⟨.hbm, 258, rfl⟩
abbrev main_call0_call0_c_43 : Ref sig .tc := ⟨.hbm, 259, rfl⟩
abbrev main_call0_call0_v166 : Ref sig .tc := ⟨.hbm, 260, rfl⟩
abbrev main_call0_call0_v167 : Ref sig .tc := ⟨.hbm, 261, rfl⟩
abbrev main_call0_call0_v168 : Ref sig .tc := ⟨.hbm, 262, rfl⟩
abbrev main_call0_call0_v169 : Ref sig .tc := ⟨.hbm, 263, rfl⟩
abbrev main_call0_call0_v170 : Ref sig .tc := ⟨.hbm, 264, rfl⟩
abbrev main_call0_v23_0 : Ref sig .tc := ⟨.hbm, 265, rfl⟩
abbrev main_call0_call0_v172 : Ref sig .tc := ⟨.hbm, 266, rfl⟩
abbrev main_call0_call0_v173 : Ref sig .tc := ⟨.hbm, 267, rfl⟩
abbrev main_call0_call0_c_44 : Ref sig .tc := ⟨.hbm, 268, rfl⟩
abbrev main_call0_call0_v174 : Ref sig .tc := ⟨.hbm, 269, rfl⟩
abbrev main_call0_v23_1 : Ref sig .tc := ⟨.hbm, 270, rfl⟩
abbrev main_call0_v24 : Ref sig .tc := ⟨.hbm, 271, rfl⟩
abbrev main_call0_c_3 : Ref sig .tc := ⟨.hbm, 272, rfl⟩
abbrev main_call0_v25 : Ref sig .tc := ⟨.hbm, 273, rfl⟩
abbrev main_call0_v26 : Ref sig .tc := ⟨.hbm, 274, rfl⟩
abbrev main_call0_c_4 : Ref sig .tc := ⟨.hbm, 275, rfl⟩
abbrev main_call0_v27 : Ref sig .tc := ⟨.hbm, 276, rfl⟩
abbrev main_call0_v28 : Ref sig .tc := ⟨.hbm, 277, rfl⟩
abbrev main_call0_v29 : Ref sig .tc := ⟨.hbm, 278, rfl⟩
abbrev main_call0_cst : Ref sig .tc := ⟨.hbm, 279, rfl⟩
abbrev main_call0_v30 : Ref sig .tc := ⟨.hbm, 280, rfl⟩
abbrev main_call0_v31 : Ref sig .tc := ⟨.hbm, 281, rfl⟩
abbrev main_call0_v32 : Ref sig .tc := ⟨.hbm, 282, rfl⟩
abbrev main_call0_v33 : Ref sig .tc := ⟨.hbm, 283, rfl⟩
abbrev main_call0_v34 : Ref sig .tc := ⟨.hbm, 284, rfl⟩
abbrev main_call0_v35 : Ref sig .tc := ⟨.hbm, 285, rfl⟩
abbrev main_call0_v36 : Ref sig .tc := ⟨.hbm, 286, rfl⟩
abbrev main_call0_v37 : Ref sig .tc := ⟨.hbm, 287, rfl⟩
abbrev main_v13 : Ref sig .tc := ⟨.hbm, 288, rfl⟩
abbrev main_v14 : Ref sig .tc := ⟨.hbm, 289, rfl⟩
abbrev main_v15 : Ref sig .tc := ⟨.hbm, 290, rfl⟩
abbrev main_v16 : Ref sig .tc := ⟨.hbm, 291, rfl⟩
abbrev main_v17 : Ref sig .tc := ⟨.hbm, 292, rfl⟩
abbrev main_v18 : Ref sig .tc := ⟨.hbm, 293, rfl⟩
abbrev main_cst_6 : Ref sig .tc := ⟨.hbm, 294, rfl⟩
abbrev main_v19 : Ref sig .tc := ⟨.hbm, 295, rfl⟩
abbrev main_v20 : Ref sig .tc := ⟨.hbm, 296, rfl⟩
abbrev main_call1_v0 : Ref sig .tc := ⟨.hbm, 297, rfl⟩
abbrev main_call1_v1 : Ref sig .tc := ⟨.hbm, 298, rfl⟩
abbrev main_call1_v2 : Ref sig .tc := ⟨.hbm, 299, rfl⟩
abbrev main_call1_v3 : Ref sig .tc := ⟨.hbm, 300, rfl⟩
abbrev main_call1_v4 : Ref sig .tc := ⟨.hbm, 301, rfl⟩
abbrev main_v21 : Ref sig .tc := ⟨.hbm, 302, rfl⟩
abbrev main_cst_7 : Ref sig .tc := ⟨.hbm, 303, rfl⟩
abbrev main_v22 : Ref sig .tc := ⟨.hbm, 304, rfl⟩
abbrev main_v23 : Ref sig .tc := ⟨.hbm, 305, rfl⟩
abbrev main_v24 : Ref sig .tc := ⟨.hbm, 306, rfl⟩
abbrev main_v25 : Ref sig .tc := ⟨.hbm, 307, rfl⟩
abbrev main_cst_8 : Ref sig .tc := ⟨.hbm, 308, rfl⟩
abbrev main_v26 : Ref sig .tc := ⟨.hbm, 309, rfl⟩
abbrev main_v27 : Ref sig .tc := ⟨.hbm, 310, rfl⟩
abbrev main_cst_9 : Ref sig .tc := ⟨.hbm, 311, rfl⟩
abbrev main_v28 : Ref sig .tc := ⟨.hbm, 312, rfl⟩
abbrev main_v29 : Ref sig .tc := ⟨.hbm, 313, rfl⟩
abbrev main_cst_10 : Ref sig .tc := ⟨.hbm, 314, rfl⟩
abbrev main_v30 : Ref sig .tc := ⟨.hbm, 315, rfl⟩
abbrev main_v31 : Ref sig .tc := ⟨.hbm, 316, rfl⟩
abbrev main_v32 : Ref sig .tc := ⟨.hbm, 317, rfl⟩
abbrev main_v33 : Ref sig .tc := ⟨.hbm, 318, rfl⟩
abbrev main_v34 : Ref sig .tc := ⟨.hbm, 319, rfl⟩
abbrev main_cst_11 : Ref sig .tc := ⟨.hbm, 320, rfl⟩
abbrev main_v35 : Ref sig .tc := ⟨.hbm, 321, rfl⟩
abbrev main_v36 : Ref sig .tc := ⟨.hbm, 322, rfl⟩
abbrev main_v37 : Ref sig .tc := ⟨.hbm, 323, rfl⟩
abbrev main_v38 : Ref sig .tc := ⟨.hbm, 324, rfl⟩
abbrev main_v39 : Ref sig .tc := ⟨.hbm, 325, rfl⟩
abbrev main_v40 : Ref sig .tc := ⟨.hbm, 326, rfl⟩
abbrev main_cst_12 : Ref sig .tc := ⟨.hbm, 327, rfl⟩
abbrev main_v41 : Ref sig .tc := ⟨.hbm, 328, rfl⟩
abbrev main_c_13 : Ref sig .tc := ⟨.hbm, 329, rfl⟩
abbrev main_v42 : Ref sig .tc := ⟨.hbm, 330, rfl⟩
abbrev main_v43 : Ref sig .tc := ⟨.hbm, 331, rfl⟩
abbrev main_c_14 : Ref sig .tc := ⟨.hbm, 332, rfl⟩
abbrev main_v44 : Ref sig .tc := ⟨.hbm, 333, rfl⟩
abbrev main_v45 : Ref sig .tc := ⟨.hbm, 334, rfl⟩
abbrev main_v46 : Ref sig .tc := ⟨.hbm, 335, rfl⟩
abbrev main_c_15 : Ref sig .tc := ⟨.hbm, 336, rfl⟩
abbrev main_v47 : Ref sig .tc := ⟨.hbm, 337, rfl⟩
abbrev main_v48 : Ref sig .tc := ⟨.hbm, 338, rfl⟩
abbrev main_c_16 : Ref sig .tc := ⟨.hbm, 339, rfl⟩
abbrev main_v49 : Ref sig .tc := ⟨.hbm, 340, rfl⟩
abbrev main_v50 : Ref sig .tc := ⟨.hbm, 341, rfl⟩
abbrev main_v51 : Ref sig .tc := ⟨.hbm, 342, rfl⟩
abbrev main_c_17 : Ref sig .tc := ⟨.hbm, 343, rfl⟩
abbrev main_v52 : Ref sig .tc := ⟨.hbm, 344, rfl⟩
abbrev main_v53 : Ref sig .tc := ⟨.hbm, 345, rfl⟩
abbrev main_c_18 : Ref sig .tc := ⟨.hbm, 346, rfl⟩
abbrev main_v54 : Ref sig .tc := ⟨.hbm, 347, rfl⟩
abbrev main_v55 : Ref sig .tc := ⟨.hbm, 348, rfl⟩
abbrev main_v56 : Ref sig .tc := ⟨.hbm, 349, rfl⟩
abbrev main_v57 : Ref sig .tc := ⟨.hbm, 350, rfl⟩
abbrev main_v58 : Ref sig .tc := ⟨.hbm, 351, rfl⟩
abbrev main_v59 : Ref sig .tc := ⟨.hbm, 352, rfl⟩
abbrev main_v60 : Ref sig .tc := ⟨.hbm, 353, rfl⟩
abbrev main_v61 : Ref sig .tc := ⟨.hbm, 354, rfl⟩
abbrev main_v62 : Ref sig .tc := ⟨.hbm, 355, rfl⟩
abbrev main_v63 : Ref sig .tc := ⟨.hbm, 356, rfl⟩
abbrev main_v64 : Ref sig .tc := ⟨.hbm, 357, rfl⟩
abbrev main_v65 : Ref sig .tc := ⟨.hbm, 358, rfl⟩

abbrev nD : Nat := 1
abbrev τ : Topo := Topo.v7x

variable {F : FTy → Type} [FloatOps F]
-- ==== Proof.Threefry.lean ====
module

public import Idealize.ShloMosaic.PureOps

@[expose] public section

/-! # The random words, one lane at a time

The stream of random words both programs draw from, as plain functions of 32-bit words: the
threefry block cipher under the seed `12345`, applied to a counter whose upper half
is zero. Both programs compute it on whole arrays; here it is on a single lane. -/

namespace Cert.Proof

/-- A pair of words, the cipher's state. -/
abbrev Pair := BitVec 32 × BitVec 32

/-- The second key word. -/
def key1 : BitVec 32 := 12345#32

/-- The parity key word. -/
def key2 : BitVec 32 := 12345#32 ^^^ 466688986#32

/-- A word rotated left by `r` places. -/
def rot (r : Nat) (w : BitVec 32) : BitVec 32 := (w <<< r) ||| (w >>> (32 - r))

/-- The end of a round, the sum `s` of the two halves already at hand. -/
def finish (r : Nat) (x s : BitVec 32) : Pair := (s, s ^^^ rot r x)

/-- One round. -/
def step (r : Nat) (p : Pair) : Pair := finish r p.2 (p.1 + p.2)

/-- A key injection: two key words and the group's number. -/
def inject (a b n : BitVec 32) (p : Pair) : Pair := (p.1 + a, p.2 + b + n)

/-- A group of four rounds with the odd groups' rotations. -/
def oddGroup (p : Pair) : Pair := step 6 (step 26 (step 15 (step 13 p)))

/-- A group of four rounds with the even groups' rotations. -/
def evenGroup (p : Pair) : Pair := step 24 (step 16 (step 29 (step 17 p)))

/-- The state before the first round. -/
def state0 (lo : BitVec 32) : Pair := (0#32, lo + key1)

/-- The state after the first group. -/
def state1 (lo : BitVec 32) : Pair := inject key1 key2 1#32 (oddGroup (state0 lo))

/-- The state after the second group. -/
def state2 (lo : BitVec 32) : Pair := inject key2 0#32 2#32 (evenGroup (state1 lo))

/-- The state after the third group. -/
def state3 (lo : BitVec 32) : Pair := inject 0#32 key1 3#32 (oddGroup (state2 lo))

/-- The state after the fourth group. -/
def state4 (lo : BitVec 32) : Pair := inject key1 key2 4#32 (evenGroup (state3 lo))

/-- The state after the fifth group. -/
def state5 (lo : BitVec 32) : Pair := inject key2 0#32 5#32 (oddGroup (state4 lo))

/-- The random word at a counter's lower half. -/
def word (lo : BitVec 32) : BitVec 32 := (state5 lo).1 ^^^ (state5 lo).2

/-- The bit pattern, of a float in `[1, 2)`, made from a random word. -/
def pattern (lo : BitVec 32) : BitVec 32 := (word lo >>> 9) ||| 1065353216#32

end Cert.Proof
-- ==== Proof.KernelWord.lean ====
module

public import proofs.«01_k».proof.Proof.Threefry
public import proofs.«01_k».proof.Proof.Gen.KernelIdeal.Frame
public import Idealize.ShloMosaic.Lib.Pointwise
public import Idealize.ShloMosaic.Lib.WordSum

@[expose] public section

set_option maxRecDepth 16384

noncomputable section

namespace Cert.Proof

open Idealize.ShloMosaic Cert.KernelIdeal Cert.KernelIdeal.Gen

/-- The counter of lane `j` of block `i`, before the key is added. -/
def laneOf (i : grid0.Coords) (j : S16x16.Idx) : BitVec 32 :=
  BitVec.ofNat 32 (i 0).val * 16#32 * 16#32 + BitVec.ofNat 32 (j 0).val * 16#32 + BitVec.ofNat 32 (j 1).val

/-- The counter with the key added. -/
theorem counter_at (i : grid0.Coords) (j : S16x16.Idx) : k0_pay3 i j = laneOf i j + key1 := by
  show BitVec.ofNat 32 (i 0).val * 16#32 * 16#32 + BitVec.ofNat 32 (0 * 16 + (j 0).val) * 16#32
    + BitVec.ofNat 32 (0 * 16 + (j 1).val) + 12345#32 = _
  simp only [Nat.zero_mul, Nat.zero_add]
  rfl

/-- The second word that the kernel's first part hands on: three rounds into the first group. -/
theorem first_half (i : grid0.Coords) (j : S16x16.Idx) :
    k0_pay9 i j = (step 26 (step 15 (step 13 (state0 (laneOf i j))))).2 := by
  rw [state0, ← counter_at]; rfl

/-- The sum that the kernel's first part hands on: the first word at the end of the first group's rounds. -/
theorem first_sum (i : grid0.Coords) (j : S16x16.Idx) :
    k0_pay10 i j = (step 6 (step 26 (step 15 (step 13 (state0 (laneOf i j)))))).1 := by
  rw [state0, ← counter_at]; rfl

/-- The second word that the kernel's second part hands on, from what the first part handed on. -/
theorem second_half (v38 v39 : IVec S16x16 32) (j : S16x16.Idx) :
    k0_pay20 key2 v38 v39 k0_pay11 j
      = (inject key2 0#32 2#32 (evenGroup (inject key1 key2 1#32 (finish 6 (v38 j) (v39 j))))).2 := rfl

/-- The sum that the kernel's second part hands on: the first word one round into the third group. -/
theorem second_sum (v38 v39 : IVec S16x16 32) (j : S16x16.Idx) :
    k0_pay21 key2 v38 v39 k0_pay11 j
      = (step 13 (inject key2 0#32 2#32 (evenGroup (inject key1 key2 1#32 (finish 6 (v38 j) (v39 j)))))).1 := rfl

/-- The sum that the kernel's third part hands on: the first word two rounds into the fourth group. -/
theorem third_sum (v85 v86 : IVec S16x16 32) (j : S16x16.Idx) :
    k0_pay31 v85 v86 13#32 j
      = (step 29 (step 17 (inject 0#32 key1 3#32 (step 6 (step 26 (step 15 (finish 13 (v85 j) (v86 j)))))))).1 := rfl

/-- The rotated word that the kernel's third part hands on beside the sum. -/
theorem third_rot (v85 v86 : IVec S16x16 32) (j : S16x16.Idx) :
    k0_pay32 v85 v86 13#32 j
      = rot 29 (step 17 (inject 0#32 key1 3#32 (step 6 (step 26 (step 15 (finish 13 (v85 j) (v86 j))))))).2 := rfl

/-- The state two rounds before the last key injection but one, from the two values the third part hands on. -/
def fourth (s x : BitVec 32) : Pair :=
  step 26 (step 15 (step 13 (inject key1 key2 4#32 (step 24 (step 16 (s, s ^^^ x))))))

/-- The second word that the kernel's fourth part hands on. -/
theorem fourth_half (v127 v132 : IVec S16x16 32) (j : S16x16.Idx) :
    k0_pay43 key2 v127 v132 j = (fourth (v127 j) (v132 j)).2 := rfl

/-- The sum that the kernel's fourth part hands on. -/
theorem fourth_sum (v127 v132 : IVec S16x16 32) (j : S16x16.Idx) :
    k0_pay44 key2 v127 v132 j = (step 6 (fourth (v127 j) (v132 j))).1 := rfl

/-- The shifted word, half of a rotation, that the kernel's fourth part hands on. -/
theorem fourth_shift (v127 v132 : IVec S16x16 32) (j : S16x16.Idx) :
    k0_pay45 key2 v127 v132 j = (fourth (v127 j) (v132 j)).2 <<< 6 := rfl

end Cert.Proof
-- ==== Proof.Draw.lean ====
module

public import proofs.«01_k».proof.Proof.Threefry
public import Idealize.ShloMosaic.Lib.Pointwise
public import Idealize.ShloMosaic.Lib.WordSum

@[expose] public section

noncomputable section

/-! # One row of the result

What both programs compute for one row of sixteen logits: sixteen drawn bits, the number they
spell, and the one-hot row at that number. -/

namespace Cert.Proof

open Idealize.ShloMosaic

/-- Whether the uniform number at counter `lo` lies below the probability of logit `x`. -/
def drawn (lo : BitVec 32) (x : EReal) : Prop := Ideal.ofBits .f32 (pattern lo) - 1 < Ideal.logistic x

open Classical in
/-- The drawn bit as a number. -/
def bit (lo : BitVec 32) (x : EReal) : ℕ := if drawn lo x then 1 else 0

/-- The number sixteen drawn bits spell, the first bit the lowest. -/
def code (lo : Fin 16 → BitVec 32) (x : Fin 16 → EReal) : ℕ := ∑ h : Fin 16, bit (lo h) (x h) * 2 ^ h.val

/-- Entry `k` of the one-hot row at `c`. -/
def hot (c k : ℕ) : EReal := if k = c then 1 else 0

/-- The counter of bit `h` of row `n`, the rows counted through all the input. -/
def counter (n : ℕ) (h : Fin 16) : BitVec 32 := BitVec.ofNat 32 (n * 16 + h.val)

/-- A drawn bit is at most one. -/
theorem bit_le (lo : BitVec 32) (x : EReal) : bit lo x ≤ 1 := by
  unfold bit; split <;> omega

/-- Sixteen bits spell a number below `2 ^ 16`. -/
theorem code_lt (lo : Fin 16 → BitVec 32) (x : Fin 16 → EReal) : code lo x < 65536 := by
  have h : code lo x ≤ ∑ h : Fin 16, 2 ^ h.val :=
    Finset.sum_le_sum fun h _ => by
      have := bit_le (lo h) (x h)
      calc bit (lo h) (x h) * 2 ^ h.val ≤ 1 * 2 ^ h.val := Nat.mul_le_mul_right _ this
        _ = 2 ^ h.val := Nat.one_mul _
  have e : ∑ h : Fin 16, 2 ^ h.val = 65535 := by decide +kernel
  omega

/-- A comparison's one-bit answer, widened, is the drawn bit. -/
theorem bit_word (lo : BitVec 32) (x : EReal) :
    (BitVec.ofBool (@decide (drawn lo x) (Classical.propDecidable _))).setWidth 32 = BitVec.ofNat 32 (bit lo x) := by
  unfold bit; by_cases h : drawn lo x <;> simp [h]

end Cert.Proof
-- ==== Proof.KernelRow.lean ====
module

public import proofs.«01_k».proof.Proof.KernelWord
public import proofs.«01_k».proof.Proof.Draw

@[expose] public section

set_option maxRecDepth 16384

noncomputable section

namespace Cert.Proof

open Idealize.ShloMosaic Cert.KernelIdeal Cert.KernelIdeal.Gen

/-- The kernel's last key injection and mixing, entry by entry. -/
theorem word_at (v174 v175 v177 : IVec S16x16 32) (j : S16x16.Idx) (lo : BitVec 32)
    (h174 : v174 j = (step 26 (step 15 (step 13 (state4 lo)))).2) (h175 : v175 j = (oddGroup (state4 lo)).1)
    (h177 : v177 j = (step 26 (step 15 (step 13 (state4 lo)))).2 <<< 6) :
    xori (addi v175 (broadcast S16x16 key2))
      (addi (addi (xori v175 (ori v177 (shrui v174 k0_pay46))) (broadcast S16x16 0#32)) (broadcast S16x16 5#32)) j = word lo := by
  show IntOp.xori (IntOp.addi (v175 j) key2) (IntOp.addi (IntOp.addi (IntOp.xori (v175 j) (IntOp.ori (v177 j)
    (IntOp.shrui .vector (v174 j) 26#32))) 0#32) 5#32) = _
  rw [h174, h175, h177]; rfl

/-- The second half of the state after two groups and the key injection. -/
theorem second_half_at (i : grid0.Coords) (X : Vec Ideal S16x16 .f32) (j : S16x16.Idx) :
    k0_pay50 i X j = (state2 (laneOf i j)).2 := by
  refine (second_half _ _ j).trans ?_
  unfold k0_pay47 k0_pay48
  rw [first_half, first_sum]; rfl

/-- The first half of the state one round after two groups. -/
theorem second_sum_at (i : grid0.Coords) (X : Vec Ideal S16x16 .f32) (j : S16x16.Idx) :
    k0_pay51 i X j = (step 13 (state2 (laneOf i j))).1 := by
  refine (second_sum _ _ j).trans ?_
  unfold k0_pay47 k0_pay48
  rw [first_half, first_sum]; rfl

/-- The first half of the state two rounds after three groups. -/
theorem third_sum_at (i : grid0.Coords) (X : Vec Ideal S16x16 .f32) (j : S16x16.Idx) :
    k0_pay52 i X j = (step 29 (step 17 (state3 (laneOf i j)))).1 := by
  refine (third_sum _ _ j).trans ?_
  rw [second_half_at, second_sum_at]; rfl

/-- The rotated word that the next round needs, two rounds after three groups. -/
theorem third_rot_at (i : grid0.Coords) (X : Vec Ideal S16x16 .f32) (j : S16x16.Idx) :
    k0_pay53 i X j = rot 29 (step 17 (state3 (laneOf i j))).2 := by
  refine (third_rot _ _ j).trans ?_
  rw [second_half_at, second_sum_at]; rfl

/-- The state three rounds into the fifth group, from what the third part hands on. -/
theorem fourth_at (i : grid0.Coords) (X : Vec Ideal S16x16 .f32) (j : S16x16.Idx) :
    fourth (k0_pay52 i X j) (k0_pay53 i X j) = step 26 (step 15 (step 13 (state4 (laneOf i j)))) := by
  rw [third_sum_at, third_rot_at]; rfl

/-- The kernel's last step, the comparison of a row's number with the column, entry by entry. -/
theorem onehot_at (idx : IVec S16 32) (c : ℕ) (hc : c < 65536) (r : Fin 16) (k : Fin 65536)
    (h : idx (ix1 r) = BitVec.ofNat 32 c) :
    sitofp (F := Ideal) .f32 (extui 32 (cmpi .eq (iota .tc S16x65536 32 [1] iota_S16x65536_d1_w32)
      (broadcastTo S16x65536 (shapeCast S16x1 idx shapeCasts_S16_S16x1) broadcasts_S16x1_S16x65536)) natLt_1_32) (ix2 r k)
      = hot c k.val := by
  pointwise [h]
  have hk := k.isLt
  have e : (BitVec.ofNat 32 k.val = BitVec.ofNat 32 c) ↔ k.val = c := by
    rw [← BitVec.toNat_inj, BitVec.toNat_ofNat, BitVec.toNat_ofNat]; omega
  unfold hot
  have hb : (BitVec.ofNat 32 k.val == BitVec.ofNat 32 c) = decide (k.val = c) := by
    rw [Bool.beq_eq_decide_eq]; exact decide_eq_decide.2 e
  show (((BitVec.setWidth 32 (BitVec.ofBool (BitVec.ofNat 32 k.val == BitVec.ofNat 32 c))).toInt : ℝ) : EReal) = _
  rw [hb]
  by_cases hkc : k.val = c <;> simp [hkc]

/-- A word sum of bits times powers of two is the number they spell. -/
theorem fold_code (lo : Fin 16 → BitVec 32) (x : Fin 16 → EReal) :
    Finset.fold IntOp.addi (0#32) (fun h : Fin 16 => IntOp.muli (BitVec.ofNat 32 (bit (lo h) (x h)))
      (IntOp.shli ArithUnit.vector (1#32) (BitVec.ofNat 32 h.val))) Finset.univ = BitVec.ofNat 32 (code lo x) := by
  have hs : ∀ h : Fin 16, IntOp.shli ArithUnit.vector (1#32) (BitVec.ofNat 32 h.val) = BitVec.ofNat 32 (2 ^ h.val) := by
    decide +kernel
  simp only [hs]
  have key : ∀ S : Finset (Fin 16), Finset.fold IntOp.addi (0#32) (fun h : Fin 16 => IntOp.muli (BitVec.ofNat 32 (bit (lo h) (x h)))
      (BitVec.ofNat 32 (2 ^ h.val))) S = BitVec.ofNat 32 (∑ h ∈ S, bit (lo h) (x h) * 2 ^ h.val) := by
    intro S
    induction S using Finset.cons_induction with
    | empty => rfl
    | cons a S ha ih =>
      rw [Finset.fold_cons, ih, Finset.sum_cons]
      show BitVec.ofNat 32 _ * BitVec.ofNat 32 _ + BitVec.ofNat 32 _ = _
      rw [← BitVec.ofNat_mul, ← BitVec.ofNat_add]
  exact key _

/-- The number of a row, as the kernel sums it up from the row's random words. -/
theorem index_at (X : FVec Ideal S16x16 .f32) (w : IVec S16x16 32) (r : Fin 16) (lo : Fin 16 → BitVec 32)
    (hw : ∀ h : Fin 16, w (ix2 r h) = word (lo h)) :
   multiReductionI .add [1] S16 (muli (extui 32 (cmpf .olt (subf (bitcastToFloat .f32 (ori (shrui w (broadcast S16x16 9#32)) (broadcast S16x16 1065353216#32)))
     (constant (F := Ideal) S16x16 .f32 0x3F800000#32)) (logistic X)) natLt_1_32) (broadcastTo S16x16 (shli (broadcast S1x16 1#32) (iota .tc S1x16 32 [1] iota_S1x16_d1_w32))
        broadcasts_S1x16_S16x16)) 0#32 reduces_S16x16_S16 rfl (ix1 r) = BitVec.ofNat 32 (code lo fun h => X (ix2 r h)) := by
  pointwise [hw]
  rw [← fold_code]
  refine congrArg (fun f => Finset.fold IntOp.addi 0#32 f Finset.univ) (funext fun h => ?_)
  rw [← bit_word]
  congr 2
  exact congrArg BitVec.ofBool (decide_eq_decide.2 Iff.rfl)

/-- The kernel's payload entry by entry, from the row's random words. -/
theorem last_at (X : FVec Ideal S16x16 .f32) (v174 v175 v177 : IVec S16x16 32) (r : Fin 16) (k : Fin 65536) (lo : Fin 16 → BitVec 32)
    (hw : ∀ h : Fin 16, xori (addi v175 (broadcast S16x16 key2))
      (addi (addi (xori v175 (ori v177 (shrui v174 k0_pay46))) (broadcast S16x16 0#32)) (broadcast S16x16 5#32)) (ix2 r h) = word (lo h)) :
    k0_pay1 (F := Ideal) X key2 v174 v175 v177 k0_pay46 (ix2 r k) = hot (code lo fun h => X (ix2 r h)) k.val :=
  onehot_at _ _ (code_lt _ _) r k (index_at X _ r lo hw)

/-- The kernel's payload at a grid point, entry by entry: the one-hot row of the row's drawn number. -/
theorem payload_at (i : grid0.Coords) (X0 : Vec Ideal S16x16 .f32) (X : FVec Ideal S16x16 .f32) (r : Fin 16) (k : Fin 65536) :
    k0_pay1 (F := Ideal) X key2 (k0_pay43 key2 (k0_pay52 i X0) (k0_pay53 i X0)) (k0_pay44 key2 (k0_pay52 i X0) (k0_pay53 i X0))
      (k0_pay45 key2 (k0_pay52 i X0) (k0_pay53 i X0)) k0_pay46 (ix2 r k)
      = hot (code (fun h => laneOf i (ix2 r h)) fun h => X (ix2 r h)) k.val := by
  refine last_at X _ _ _ r k _ fun h => word_at _ _ _ _ _ ?_ ?_ ?_
  · rw [fourth_half, fourth_at]
  · rw [fourth_sum, fourth_at]; rfl
  · rw [fourth_shift, fourth_at]

end Cert.Proof
-- ==== Proof.KernelValue.lean ====
module

public import proofs.«01_k».proof.Proof.KernelRow
public import Idealize.ShloMosaic.Lib.Pipeline.ValueKit

@[expose] public section

set_option maxRecDepth 16384

noncomputable section

namespace Cert.Proof

open Idealize.ShloMosaic Idealize.ShloMosaic.TcCoe Idealize.SL.Sem
open Cert.KernelIdeal Cert.KernelIdeal.Gen

/-- The rows of the input, counted through, and what each row's one-hot result is. -/
def result (x : FVec Ideal S32x8x16 .f32) : FVec Ideal S32x8x65536 .f32 := fun j =>
  hot (code (counter ((j 0).val * 8 + (j 1).val)) fun h => x (ix3 (j 0) (j 1) h)) (j 2).val

/-- The same with the rows in one axis. -/
def flat (x : FVec Ideal S256x16 .f32) : FVec Ideal S256x65536 .f32 := fun j =>
  hot (code (counter (j 0).val) fun h => x (ix2 (j 0) h)) (j 1).val

/-- Where each grid point's blocks stand. -/
theorem idx : ∀ t : Fin cfg0.N, win0_0.index t = ![t.val, 0] ∧ win0_1.index t = ![t.val, 0] ∧ (grid0.coords t 0).val = t.val :=
  (by decide +kernel : ∀ t : Fin grid0.N, _)

/-- A lane's counter at grid point `t` is the counter of its row counted through the whole input. -/
theorem laneOf_eq (t : Fin cfg0.N) (r h : Fin 16) : laneOf (grid0.coords t) (ix2 r h) = counter (t.val * 16 + r.val) h := by
  unfold laneOf counter
  rw [(idx t).2.2]
  show BitVec.ofNat 32 t.val * 16#32 * 16#32 + BitVec.ofNat 32 r.val * 16#32 + BitVec.ofNat 32 h.val = _
  apply BitVec.eq_of_toNat_eq
  have ht : t.val < 16 := t.isLt
  simp only [BitVec.toNat_add, BitVec.toNat_mul, BitVec.toNat_ofNat]
  omega

/-- What the body stores at grid point `t`, entry by entry. -/
theorem point_at (t : Fin cfg0.N) (X : Vec Ideal S16x16 .f32) (r : Fin 16) (k : Fin 65536) :
    k0_pay1 (F := Ideal) (k0_pay2 X) key2 (k0_pay43 key2 (k0_pay52 (grid0.coords t) X) (k0_pay53 (grid0.coords t) X))
      (k0_pay44 key2 (k0_pay52 (grid0.coords t) X) (k0_pay53 (grid0.coords t) X))
      (k0_pay45 key2 (k0_pay52 (grid0.coords t) X) (k0_pay53 (grid0.coords t) X)) k0_pay46 (ix2 r k)
      = hot (code (counter (t.val * 16 + r.val)) fun h => X (ix2 r h)) k.val := by
  refine (payload_at (grid0.coords t) X (k0_pay2 X) r k).trans ?_
  have hX : ∀ h : Fin 16, k0_pay2 (F := Ideal) X (ix2 r h) = X (ix2 r h) := fun h => by pointwise [k0_pay2]
  simp only [hX, laneOf_eq]

/-- An entry of `flat`, its coordinates and row named otherwise. -/
theorem flat_at (x : FVec Ideal S256x16 .f32) (i : S256x65536.Idx) (n k : ℕ) (g : Fin 16 → EReal) (h0 : (i 0).val = n)
    (h1 : (i 1).val = k) (hx : ∀ h : Fin 16, g h = x (ix2 (i 0) h)) : hot (code (counter n) g) k = flat x i := by
  subst h0 h1
  rw [show g = fun h => x (ix2 (i 0) h) from funext hx]; rfl

/-- The kernel's result array after its region. -/
theorem arr_eq (m : (ℓ : Loc nD τ sig) → Buf (Elt Ideal) ℓ) (c : Dev nD) :
    (dats m 0 c).arrAt 1 (cfgs 0).N = flat (V m c main_v0) := by
  refine (dats m 0 c).arrAt_eq_of_covers 1 _ (by decide +kernel) fun t hf y => ?_
  blk_simp
  rw [after0_1]
  frame_out
  refine (congrArg _ (eq_ix2 y)).trans ((point_at t (iblk m c 0 t) (y 0) (y 1)).trans (flat_at _ _ _ _ _ ?_ ?_ fun h => ?_))
  · blk_simp [idx t]
  · blk_simp [idx t]
  · blk_ext [iblk, idx t]

/-- The host's reshape before the region. -/
theorem V_v0 (m : (ℓ : Loc nD τ sig) → Buf (Elt Ideal) ℓ) (c : Dev nD) :
    V m c main_v0 = shapeCast S256x16 (m ((c.tc : Thread nD τ).loc main_arg0)) shapeCasts_S32x8x16_S256x16 := by
  show StableHlo.after ([hostOps0].flatten) _ _ = _
  simp only [hostOps0, List.flatten_cons, List.flatten_nil, List.append_nil]
  after_results
  rfl

/-- The rows in one axis, and back in two. -/
theorem cast_flat (x : FVec Ideal S32x8x16 .f32) :
    shapeCast S32x8x65536 (flat (shapeCast S256x16 x shapeCasts_S32x8x16_S256x16)) shapeCasts_S256x65536_S32x8x65536 = result x := by
  funext j
  idx_vars j
  pointwise [flat, result]

/-- The kernel's result after the host's reshape behind the region. -/
theorem tail_value (m : (ℓ : Loc nD τ sig) → Buf (Elt Ideal) ℓ) (c : Dev nD) :
    Pipeline.afterTail₀ cfgs (dats m) 0 (V0 m) [hostOps1] c main_v2 = result (m ((c.tc : Thread nD τ).loc main_arg0)) := by
  unfold Pipeline.afterTail₀
  simp only [hostOps1, List.flatten_cons, List.flatten_nil, List.append_nil]
  after_results
  have e := (Pipeline.withArrays_arr (cfgs 0).spec (by decide) c (V0 m c) (fun w => (dats m 0 c).arrAt w (cfgs 0).N) 1).trans ((arr_eq m c).trans (congrArg flat (V_v0 m c)))
  exact (congrArg (fun A => shapeCast S32x8x65536 A shapeCasts_S256x65536_S32x8x65536) e).trans (cast_flat _)

/-- The kernel's run: the one-hot rows of the drawn numbers, and the logits as they were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0)) := by
  run_from Cert.KernelIdeal.Gen.run_main m ρ
  · exact tail_value m c
  · exact W_main_arg0 m (dats m) c

end Cert.Proof
-- ==== Proof.RefLine.lean ====
module

public import proofs.«01_k».proof.Proof.Gen.ReferenceIdeal
public import Idealize.ShloMosaic.Lib.Pointwise
public import Idealize.ShloMosaic.Lib.Claim
public import Idealize.ShloMosaic.Lib.StableHlo.RunHlo
public import Idealize.ShloMosaic.Lib.StableHlo.RunRead

@[expose] public section

set_option maxRecDepth 16384

noncomputable section

/-! # The reference as a list of operations

The reference is a straight line of host operations, some of them inside functions it calls. Here the
list is read off the program and cut into the stages that the later modules read. -/

namespace Cert.Proof

open Idealize.ShloMosaic Idealize.SL.Sem Idealize.ShloMosaic.StableHlo
open Cert.ReferenceIdeal Cert.ReferenceIdeal.Gen

section Lines
variable {nD : Nat} {τ : Topo} {sig : RefSig} {Val : EltTy → Type} {Λ : Labels}

/-- One operation at the end of a program is a line of one. -/
theorem isSeq_one (op : HloOp τ sig Val) :
    IsSeq (nD := nD) (Λ := Λ) (hlo rfl op fun _ => .ret (⟨⟩ : PUnit)) [op] := rfl

/-- Two lines after one another. -/
theorem isSeq_append {p q : Prog (TpuEff nD τ sig Val Λ .tc) PUnit} {l k : List (HloOp τ sig Val)}
    (hp : IsSeq p l) (hq : IsSeq q k) : IsSeq (p >>= fun _ => q) (l ++ k) := by
  unfold IsSeq at hp hq ⊢
  rw [hp, hq, seq_append]

end Lines

/-- Part 0 of the cipher's body as a line of operations. -/
def cipher0 : { ops : List (HloOp τ sig (Elt Ideal)) //
    IsSeq (fn_threefry2x32.body_part0 (F := Ideal) main_call0.v5 main_call0.v7 main_call0.v22 main_call0.v21 main_call0.call0) ops } := by
  apply Subtype.mk
  unfold fn_threefry2x32.body_part0
  repeat (first | exact IsSeq.nil | exact isSeq_one _ | apply IsSeq.cons)

/-- Part 1 of the cipher's body as a line of operations. -/
def cipher1 : { ops : List (HloOp τ sig (Elt Ideal)) //
    IsSeq (fn_threefry2x32.body_part1 (F := Ideal) main_call0.v5 main_call0.v7 main_call0.v22 main_call0.v21 main_call0.call0) ops } := by
  apply Subtype.mk
  unfold fn_threefry2x32.body_part1
  repeat (first | exact IsSeq.nil | exact isSeq_one _ | apply IsSeq.cons)

/-- Part 2 of the cipher's body as a line of operations. -/
def cipher2 : { ops : List (HloOp τ sig (Elt Ideal)) //
    IsSeq (fn_threefry2x32.body_part2 (F := Ideal) main_call0.v5 main_call0.v7 main_call0.v22 main_call0.v21 main_call0.call0) ops } := by
  apply Subtype.mk
  unfold fn_threefry2x32.body_part2
  repeat (first | exact IsSeq.nil | exact isSeq_one _ | apply IsSeq.cons)

/-- Part 3 of the cipher's body as a line of operations. -/
def cipher3 : { ops : List (HloOp τ sig (Elt Ideal)) //
    IsSeq (fn_threefry2x32.body_part3 (F := Ideal) main_call0.v5 main_call0.v7 main_call0.v22 main_call0.v21 main_call0.call0) ops } := by
  apply Subtype.mk
  unfold fn_threefry2x32.body_part3
  repeat (first | exact IsSeq.nil | exact isSeq_one _ | apply IsSeq.cons)

/-- The cipher's body as a line of operations. -/
def cipher : { ops : List (HloOp τ sig (Elt Ideal)) //
    IsSeq (fn_threefry2x32.body (F := Ideal) main_call0.v5 main_call0.v7 main_call0.v22 main_call0.v21 main_call0.call0) ops } := by
  apply Subtype.mk
  unfold fn_threefry2x32.body
  exact isSeq_append cipher0.2 (isSeq_append cipher1.2 (isSeq_append cipher2.2 cipher3.2))

/-- The uniform draw's body as a line of operations. -/
def uniform : { ops : List (HloOp τ sig (Elt Ideal)) //
    IsSeq (fn_uniform.body (F := Ideal) (.of main_v12) (.of main_cst_4) (.of main_cst_5) main_call0) ops } := by
  apply Subtype.mk
  unfold fn_uniform.body
  repeat (first | exact IsSeq.nil | exact isSeq_one _ | apply IsSeq.cons | apply isSeq_append cipher.2)

/-- The one-hot body as a line of operations. -/
def onehot : { ops : List (HloOp τ sig (Elt Ideal)) // IsSeq (fn_one_hot.body (F := Ideal) (.of main_v20) main_call1) ops } := by
  apply Subtype.mk
  unfold fn_one_hot.body
  repeat (first | exact IsSeq.nil | exact isSeq_one _ | apply IsSeq.cons)

/-- The first part of the program as a line of operations. -/
def line0 : { ops : List (HloOp τ sig (Elt Ideal)) // ∀ d, IsSeq (main_part0 (F := Ideal) d) ops } := by
  apply Subtype.mk
  intro d
  unfold main_part0
  repeat (first | exact IsSeq.nil | exact isSeq_one _ | apply IsSeq.cons | apply isSeq_append uniform.2 | apply isSeq_append onehot.2)

/-- The second part of the program as a line of operations. -/
def line1 : { ops : List (HloOp τ sig (Elt Ideal)) // ∀ d, IsSeq (main_part1 (F := Ideal) d) ops } := by
  apply Subtype.mk
  intro d
  unfold main_part1
  repeat (first | exact IsSeq.nil | exact isSeq_one _ | apply IsSeq.cons)

/-- The whole program is the two parts' operations, one after the other. -/
theorem line_main (d : Dev nD) : IsSeq (main (F := Ideal) d) (line0.1 ++ line1.1) :=
  isSeq_append (line0.2 d) (line1.2 d)

/-- What two lists of operations leave is what the second leaves on what the first left. -/
theorem after_app (l k : List (HloOp τ sig (Elt Ideal))) (V : Valuation τ sig (Elt Ideal)) :
    after (l ++ k) V = after k (after l V) := by
  induction l generalizing V with
  | nil => rfl
  | cons a l ih => exact ih _

/-- The cipher's operations up to the end of its first group of rounds. -/
def group1 : List (HloOp τ sig (Elt Ideal)) := cipher.1.take 50
/-- The cipher's second group of rounds. -/
def group2 : List (HloOp τ sig (Elt Ideal)) := (cipher.1.drop 50).take 43
/-- The cipher's third group of rounds. -/
def group3 : List (HloOp τ sig (Elt Ideal)) := (cipher.1.drop 93).take 43
/-- The cipher's fourth group of rounds. -/
def group4 : List (HloOp τ sig (Elt Ideal)) := (cipher.1.drop 136).take 43
/-- The cipher's last group of rounds. -/
def group5 : List (HloOp τ sig (Elt Ideal)) := cipher.1.drop 179

/-- The cipher's operations are its five groups in order. -/
theorem cipher_groups : cipher.1 = group1 ++ (group2 ++ (group3 ++ (group4 ++ group5))) := by rfl

/-- All the program's operations in order. -/
def line : List (HloOp τ sig (Elt Ideal)) := line0.1 ++ line1.1
/-- The operations before the cipher: the probabilities, the key and the counters. -/
def start : List (HloOp τ sig (Elt Ideal)) := line.take 48
/-- The operations after the cipher up to the sampled bits. -/
def sample : List (HloOp τ sig (Elt Ideal)) := (line.drop 270).take 20
/-- The operations from the sampled bits to the index they spell. -/
def spell : List (HloOp τ sig (Elt Ideal)) := (line.drop 290).take 6
/-- The operations that mark the index in a row of zeros. -/
def mark : List (HloOp τ sig (Elt Ideal)) := (line.drop 296).take 6
/-- The operations that add the term which carries the gradient. -/
def finale : List (HloOp τ sig (Elt Ideal)) := line.drop 302

/-- The program's operations are its stages in order. -/
theorem line_stages : line = start ++ (cipher.1 ++ (sample ++ (spell ++ (mark ++ finale)))) := by rfl

end Cert.Proof
-- ==== Proof.RefCipher.lean ====
module

public import proofs.«01_k».proof.Proof.RefLine
public import proofs.«01_k».proof.Proof.Threefry
public import Idealize.ShloMosaic.Lib.StableHlo.ReadAt

@[expose] public section

/-! The reference's block cipher, group by group. For each of its five groups of rounds: what the
two state words are after the group's operations, in terms of the state words and the key words
before them. Chained, they say what the whole cipher leaves. -/

set_option maxRecDepth 16384

noncomputable section

namespace Cert.Proof

open Idealize Idealize.ShloMosaic Idealize.ShloMosaic.StableHlo Cert.ReferenceIdeal

/-- What the buffers hold, device by device. -/
abbrev Held := Valuation τ sig (Elt Ideal)

/-- The first key word. -/
def keyA (V : Held) : BitVec 32 := (show IVec S_ 32 from V (Proc.devRef .tc main_call0_v5)) ix0

/-- The second key word. -/
def keyB (V : Held) : BitVec 32 := (show IVec S_ 32 from V (Proc.devRef .tc main_call0_v7)) ix0

/-- The parity key word. -/
def keyC (V : Held) : BitVec 32 := (show IVec S_ 32 from V (Proc.devRef .tc main_call0_call0_v1)) ix0

/-- The upper half of the counter at a lane. -/
def upper (V : Held) (j : S32x8x16.Idx) : BitVec 32 :=
  (show IVec S32x8x16 32 from V (Proc.devRef .tc main_call0_v22)) j

/-- The lower half of the counter at a lane. -/
def lower (V : Held) (j : S32x8x16.Idx) : BitVec 32 :=
  (show IVec S32x8x16 32 from V (Proc.devRef .tc main_call0_v21)) j

/-- The state at a lane after the first group. -/
def out1 (V : Held) (j : S32x8x16.Idx) : Pair :=
  ((show IVec S32x8x16 32 from V (Proc.devRef .tc main_call0_call0_v35)) j,
    (show IVec S32x8x16 32 from V (Proc.devRef .tc main_call0_call0_v39)) j)

/-- The state at a lane after the second group. -/
def out2 (V : Held) (j : S32x8x16.Idx) : Pair :=
  ((show IVec S32x8x16 32 from V (Proc.devRef .tc main_call0_call0_v69)) j,
    (show IVec S32x8x16 32 from V (Proc.devRef .tc main_call0_call0_v73)) j)

/-- The state at a lane after the third group. -/
def out3 (V : Held) (j : S32x8x16.Idx) : Pair :=
  ((show IVec S32x8x16 32 from V (Proc.devRef .tc main_call0_call0_v103)) j,
    (show IVec S32x8x16 32 from V (Proc.devRef .tc main_call0_call0_v107)) j)

/-- The state at a lane after the fourth group. -/
def out4 (V : Held) (j : S32x8x16.Idx) : Pair :=
  ((show IVec S32x8x16 32 from V (Proc.devRef .tc main_call0_call0_v137)) j,
    (show IVec S32x8x16 32 from V (Proc.devRef .tc main_call0_call0_v141)) j)

/-- The state at a lane after the fifth group. -/
def out5 (V : Held) (j : S32x8x16.Idx) : Pair :=
  ((show IVec S32x8x16 32 from V (Proc.devRef .tc main_call0_v23_0)) j,
    (show IVec S32x8x16 32 from V (Proc.devRef .tc main_call0_v23_1)) j)

/-- The first group: the parity key word, and the state from the counter. -/
theorem group1_keyC (V : Held) : keyC (after group1 V) = keyA V ^^^ keyB V ^^^ 466688986#32 := by
  unfold keyC group1
  simp only [cipher, cipher0, cipher1, cipher2, cipher3, List.cons_append, List.nil_append,
    List.take_succ_cons, List.take_zero, List.drop_succ_cons, List.drop_zero]
  after_reads_at
  rfl

/-- The state after the first group. -/
theorem group1_out (V : Held) (j : S32x8x16.Idx) : out1 (after group1 V) j =
    inject (keyB V) (keyA V ^^^ keyB V ^^^ 466688986#32) 1#32 (oddGroup (upper V j + keyA V, lower V j + keyB V)) := by
  unfold out1 group1
  simp only [cipher, cipher0, cipher1, cipher2, cipher3, List.cons_append, List.nil_append,
    List.take_succ_cons, List.take_zero, List.drop_succ_cons, List.drop_zero]
  refine Prod.ext ?_ ?_ <;> (dsimp only; after_reads_at; rfl)

/-- The state after the second group. -/
theorem group2_out (V : Held) (j : S32x8x16.Idx) : out2 (after group2 V) j =
    inject (keyC V) (keyA V) 2#32 (evenGroup (out1 V j)) := by
  unfold out2 group2
  simp only [cipher, cipher0, cipher1, cipher2, cipher3, List.cons_append, List.nil_append,
    List.take_succ_cons, List.take_zero, List.drop_succ_cons, List.drop_zero]
  refine Prod.ext ?_ ?_ <;> (dsimp only; after_reads_at; rfl)

/-- The state after the third group. -/
theorem group3_out (V : Held) (j : S32x8x16.Idx) : out3 (after group3 V) j =
    inject (keyA V) (keyB V) 3#32 (oddGroup (out2 V j)) := by
  unfold out3 group3
  simp only [cipher, cipher0, cipher1, cipher2, cipher3, List.cons_append, List.nil_append,
    List.take_succ_cons, List.take_zero, List.drop_succ_cons, List.drop_zero]
  refine Prod.ext ?_ ?_ <;> (dsimp only; after_reads_at; rfl)

/-- The state after the fourth group. -/
theorem group4_out (V : Held) (j : S32x8x16.Idx) : out4 (after group4 V) j =
    inject (keyB V) (keyC V) 4#32 (evenGroup (out3 V j)) := by
  unfold out4 group4
  simp only [cipher, cipher0, cipher1, cipher2, cipher3, List.cons_append, List.nil_append,
    List.take_succ_cons, List.take_zero, List.drop_succ_cons, List.drop_zero]
  refine Prod.ext ?_ ?_ <;> (dsimp only; after_reads_at; rfl)

/-- The state after the fifth group. -/
theorem group5_out (V : Held) (j : S32x8x16.Idx) : out5 (after group5 V) j =
    inject (keyC V) (keyA V) 5#32 (oddGroup (out4 V j)) := by
  unfold out5 group5
  simp only [cipher, cipher0, cipher1, cipher2, cipher3, List.cons_append, List.nil_append,
    List.take_succ_cons, List.take_zero, List.drop_succ_cons, List.drop_zero]
  refine Prod.ext ?_ ?_ <;> (dsimp only; after_reads_at; rfl)

/-- The first group keeps the key words it does not make. -/
theorem group1_keys (V : Held) : keyA (after group1 V) = keyA V ∧ keyB (after group1 V) = keyB V := by
  unfold keyA keyB  group1
  simp only [cipher, cipher0, cipher1, cipher2, cipher3, List.cons_append, List.nil_append,
    List.take_succ_cons, List.take_zero, List.drop_succ_cons, List.drop_zero]
  refine ⟨?_, ?_⟩ <;> after_reads_simp

/-- The second group keeps the key words it does not make. -/
theorem group2_keys (V : Held) : keyA (after group2 V) = keyA V ∧ keyB (after group2 V) = keyB V ∧ keyC (after group2 V) = keyC V := by
  unfold keyA keyB keyC group2
  simp only [cipher, cipher0, cipher1, cipher2, cipher3, List.cons_append, List.nil_append,
    List.take_succ_cons, List.take_zero, List.drop_succ_cons, List.drop_zero]
  refine ⟨?_, ?_, ?_⟩ <;> after_reads_simp

/-- The third group keeps the key words it does not make. -/
theorem group3_keys (V : Held) : keyA (after group3 V) = keyA V ∧ keyB (after group3 V) = keyB V ∧ keyC (after group3 V) = keyC V := by
  unfold keyA keyB keyC group3
  simp only [cipher, cipher0, cipher1, cipher2, cipher3, List.cons_append, List.nil_append,
    List.take_succ_cons, List.take_zero, List.drop_succ_cons, List.drop_zero]
  refine ⟨?_, ?_, ?_⟩ <;> after_reads_simp

/-- The fourth group keeps the key words it does not make. -/
theorem group4_keys (V : Held) : keyA (after group4 V) = keyA V ∧ keyB (after group4 V) = keyB V ∧ keyC (after group4 V) = keyC V := by
  unfold keyA keyB keyC group4
  simp only [cipher, cipher0, cipher1, cipher2, cipher3, List.cons_append, List.nil_append,
    List.take_succ_cons, List.take_zero, List.drop_succ_cons, List.drop_zero]
  refine ⟨?_, ?_, ?_⟩ <;> after_reads_simp

/-- The whole cipher on a counter whose upper half is zero, under the seed's key. -/
theorem cipher_out (V : Held) (hA : keyA V = 0#32) (hB : keyB V = key1) (j : S32x8x16.Idx)
    (hu : upper V j = 0#32) : out5 (after cipher.1 V) j = state5 (lower V j) := by
  have c1 := group1_keyC V
  obtain ⟨a1, b1⟩ := group1_keys V
  obtain ⟨a2, b2, c2⟩ := group2_keys (after group1 V)
  obtain ⟨a3, b3, c3⟩ := group3_keys (after group2 (after group1 V))
  obtain ⟨a4, b4, c4⟩ := group4_keys (after group3 (after group2 (after group1 V)))
  rw [cipher_groups, after_app, after_app, after_app, after_app, group5_out, group4_out, group3_out,
    group2_out, group1_out, a4, c4, b3, c3, a3, b2, c2, a2, a1, b1, c1, hA, hB, hu]
  rfl

end Cert.Proof
-- ==== Proof.RefPure.lean ====
module

public import proofs.«01_k».proof.Proof.Draw
public import Idealize.ShloMosaic.Lib.IdealHost

@[expose] public section

set_option maxRecDepth 16384

noncomputable section

/-! # Facts about single values

What the reference's scalar steps come to over the extended reals: the float made of a random word,
the number sixteen drawn bits spell, the entries of a one-hot row, and that the term which carries
the gradient is always a real number, so that its difference with itself is zero. -/

namespace Cert.Proof

open Idealize.ShloMosaic

/-- A value is an ordinary real number, neither of the infinities. -/
def IsReal (v : EReal) : Prop := ∃ r : ℝ, v = (r : EReal)

/-- A sum of two real numbers is real. -/
theorem real_add {a b : EReal} (ha : IsReal a) (hb : IsReal b) : IsReal (a + b) := by
  obtain ⟨r, rfl⟩ := ha; obtain ⟨s, rfl⟩ := hb; exact ⟨r + s, (EReal.coe_add r s).symm⟩

/-- A difference of two real numbers is real. -/
theorem real_sub {a b : EReal} (ha : IsReal a) (hb : IsReal b) : IsReal (a - b) := by
  obtain ⟨r, rfl⟩ := ha; obtain ⟨s, rfl⟩ := hb; exact ⟨r - s, (EReal.coe_sub r s).symm⟩

/-- A product of two real numbers is real. -/
theorem real_mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is real. -/
theorem real_sum {ι : Type} (s : Finset ι) (f : ι → EReal) (h : ∀ i, IsReal (f i)) : IsReal (∑ i ∈ s, f i) := by
  classical
  induction s using Finset.induction_on with
  | empty => exact ⟨0, rfl⟩
  | insert a s ha ih => rw [Finset.sum_insert ha]; exact real_add (h a) ih

/-- The exponential of a real number is real. -/
theorem real_exp {a : EReal} (ha : IsReal a) : IsReal (Ideal.exp a) := by
  obtain ⟨r, rfl⟩ := ha; exact ⟨Real.exp r, rfl⟩

/-- A real number less itself is zero. -/
theorem sub_self_real {a : EReal} (ha : IsReal a) : a - a = 0 := by
  obtain ⟨r, rfl⟩ := ha
  rw [← EReal.coe_sub, sub_self]; rfl

/-- A probability is a real number from zero to one. -/
theorem logistic_real (x : EReal) : ∃ r : ℝ, 0 ≤ r ∧ r ≤ 1 ∧ Ideal.logistic x = (r : EReal) := by
  induction x using EReal.rec with
  | bot => exact ⟨0, le_rfl, zero_le_one, Ideal.logistic_bot⟩
  | top => exact ⟨1, zero_le_one, le_rfl, Ideal.logistic_top⟩
  | coe r =>
    refine ⟨(1 + Real.exp (-r))⁻¹, by positivity, ?_, Ideal.logistic_coe r⟩
    exact inv_le_one_of_one_le₀ (by linarith [Real.exp_pos (-r)])

/-- The guard `1e-10` inside the logarithms is a positive real. -/
theorem guard_real : ∃ r : ℝ, 0 < r ∧ Ideal.ofBits .f32 0x2EDBE6FF#32 = (r : EReal) := by
  refine ⟨_, ?_, by simp [Ideal.ofBits, Ideal.ieee, -EReal.coe_mul]; rfl⟩
  positivity

/-- The logarithm of a guarded number that is not negative is a real number. -/
theorem log_guard {r : ℝ} (hr : 0 ≤ r) : IsReal (Ideal.log ((r : EReal) + Ideal.ofBits .f32 0x2EDBE6FF#32)) := by
  obtain ⟨e, he, h⟩ := guard_real
  rw [h, ← EReal.coe_add]
  exact ⟨Real.log (r + e), if_neg (by linarith)⟩

/-- A number below `2 ^ 23` under the bits of one's exponent. -/
theorem or_exponent (n : ℕ) (hn : n < 2 ^ 23) : n ||| 1065353216 = 1065353216 + n := by
  have h := Nat.two_pow_add_eq_or_of_lt hn 127
  rw [show 2 ^ 23 * 127 = 1065353216 from rfl] at h
  rw [h, Nat.or_comm]

/-- The pattern as a number. -/
theorem pattern_nat (lo : BitVec 32) : (pattern lo).toNat = 1065353216 + (word lo).toNat / 512 := by
  have hlt := (word lo).isLt
  unfold pattern
  rw [BitVec.toNat_or, BitVec.toNat_ushiftRight, Nat.shiftRight_eq_div_pow]
  exact or_exponent _ (by omega)

/-- The pattern's sign is positive. -/
theorem pattern_sign (lo : BitVec 32) : (pattern lo).extractLsb' 31 1 = 0#1 := by
  have hlt := (word lo).isLt
  apply BitVec.eq_of_toNat_eq
  rw [BitVec.extractLsb'_toNat, pattern_nat, Nat.shiftRight_eq_div_pow]
  simp only [BitVec.toNat_ofNat]
  omega

/-- The pattern's exponent is one's. -/
theorem pattern_exponent (lo : BitVec 32) : ((pattern lo).extractLsb' 23 8).toNat = 127 := by
  have hlt := (word lo).isLt
  rw [BitVec.extractLsb'_toNat, pattern_nat, Nat.shiftRight_eq_div_pow]
  omega

/-- The float made of a word's upper bits is a real number and at least one. -/
theorem pattern_real (lo : BitVec 32) : ∃ r : ℝ, 1 ≤ r ∧ Ideal.ofBits .f32 (pattern lo) = (r : EReal) := by
  refine ⟨1 + (((pattern lo).extractLsb' 0 23).toNat : ℝ) / 8388608, ?_, ?_⟩
  · have : (0 : ℝ) ≤ (((pattern lo).extractLsb' 0 23).toNat : ℝ) / 8388608 := by positivity
    linarith
  · generalize hf : ((pattern lo).extractLsb' 0 23).toNat = f
    have hs : (pattern lo).extractLsb' (8 + 23) 1 = 0#1 := pattern_sign lo
    simp only [Ideal.ofBits, Ideal.ieee, hs, pattern_exponent, hf]
    rw [if_neg (by norm_num), if_neg (by norm_num), if_neg (by decide)]
    congr 1
    push_cast
    norm_num
    ring

/-- The sum of the drawn bits by their powers of two, as an integer word, is the number they spell. -/
theorem fptosi_code (lo : Fin 16 → BitVec 32) (x : Fin 16 → EReal) :
    Ideal.fptosi 32 (∑ h : Fin 16, (((bit (lo h) (x h) : ℕ) : ℝ) : EReal) * ((((2 : ℝ) ^ h.val : ℝ)) : EReal))
      = BitVec.ofNat 32 (code lo x) := by
  have hs : (∑ h : Fin 16, (((bit (lo h) (x h) : ℕ) : ℝ) : EReal) * ((((2 : ℝ) ^ h.val : ℝ)) : EReal))
      = (((code lo x : ℕ) : ℝ) : EReal) := by
    unfold code
    simp only [← EReal.coe_mul]
    push_cast
    rfl
  have hc := code_lt lo x
  rw [hs, Ideal.fptosi, Ideal.toIntClamped_coe, if_pos (Nat.cast_nonneg _), Int.floor_natCast]
  rw [show max (-((2 ^ (32 - 1) : ℕ) : ℤ)) (min (((2 ^ (32 - 1) : ℕ) : ℤ) - 1) ((code lo x : ℕ) : ℤ)) = ((code lo x : ℕ) : ℤ) by
    omega]
  exact BitVec.ofInt_natCast _ _

/-- The comparison of two small numbers as words is a one-hot entry. -/
theorem hot_entry {c k : ℕ} (hc : c < 65536) (hk : k < 65536) :
    (FloatOps.uitofp (F := Ideal) .f32 (IntOp.cmpi .eq (BitVec.ofNat 32 c) (BitVec.ofNat 32 k))) = hot c k := by
  unfold hot
  by_cases h : k = c
  · subst h
    rw [if_pos rfl]
    simp [IntOp.cmpi, FloatOps.uitofp]
  · rw [if_neg h]
    have hne : (BitVec.ofNat 32 c == BitVec.ofNat 32 k) = false := by
      rw [beq_eq_false_iff_ne]
      intro e
      have := congrArg BitVec.toNat e
      simp only [BitVec.toNat_ofNat] at this
      omega
    simp [IntOp.cmpi, hne, FloatOps.uitofp]

/-- A test that agrees with the draw gives the drawn bit. -/
theorem bit_entry (lo : BitVec 32) (x : EReal) (P : Prop) [Decidable P] (hP : P ↔ drawn lo x) :
    (FloatOps.uitofp (F := Ideal) .f32 (BitVec.ofBool (decide P))) = (((bit lo x : ℕ) : ℝ) : EReal) := by
  unfold bit
  by_cases h : P
  · simp [h, hP.mp h, FloatOps.uitofp]
  · simp [h, mt hP.mpr h, FloatOps.uitofp]

/-- The draw stretched to the unit interval and cut off at zero is the draw. -/
theorem stretch (lo : BitVec 32) :
    max (0 : EReal) ((Ideal.ofBits .f32 (pattern lo) - 1) * (1 - 0) + 0) = Ideal.ofBits .f32 (pattern lo) - 1 := by
  obtain ⟨r, hr, h⟩ := pattern_real lo
  rw [h, sub_zero, mul_one, add_zero, ← EReal.coe_one, ← EReal.coe_sub]
  exact max_eq_right (by exact_mod_cast sub_nonneg.mpr hr)

/-- The lower half of the sixty-four-bit counter of a lane. -/
theorem counter_low (b : Fin 32) (s : Fin 8) (h : Fin 16) :
    BitVec.setWidth 32 (128#64 * BitVec.ofNat 64 b.val + 16#64 * BitVec.ofNat 64 s.val + 1#64 * BitVec.ofNat 64 h.val)
      = counter (b.val * 8 + s.val) h := by
  unfold counter
  apply BitVec.eq_of_toNat_eq
  simp
  omega

/-- The upper half of the sixty-four-bit counter of a lane is zero. -/
theorem counter_high (b : Fin 32) (s : Fin 8) (h : Fin 16) :
    BitVec.setWidth 32 ((128#64 * BitVec.ofNat 64 b.val + 16#64 * BitVec.ofNat 64 s.val + 1#64 * BitVec.ofNat 64 h.val) >>> 32)
      = 0#32 := by
  apply BitVec.eq_of_toNat_eq
  simp
  omega

end Cert.Proof
-- ==== Proof.RefRead.lean ====
module

public import proofs.«01_k».proof.Proof.RefCipher
public import proofs.«01_k».proof.Proof.RefPure
public import Idealize.ShloMosaic.Lib.Routing.OpsOrder

@[expose] public section

set_option maxRecDepth 16384

noncomputable section

/-! # The reference, stage by stage

What each stage of the reference's operations leaves in the buffers a later stage reads: before the
cipher the probabilities, the key and the counters; after it the sampled bits, the index they spell,
the one-hot rows, and at last the answer. -/

namespace Cert.Proof

open Idealize Idealize.ShloMosaic Idealize.ShloMosaic.StableHlo Cert.ReferenceIdeal

/-- The logits. -/
def logits (V : Held) : FVec Ideal S32x8x16 .f32 := V (Proc.devRef .tc main_arg0)
/-- The probabilities. -/
def probs (V : Held) : FVec Ideal S32x8x16 .f32 := V (Proc.devRef .tc main_v5)
/-- The sampled bits, as numbers. -/
def bits (V : Held) : FVec Ideal S32x8x16 .f32 := V (Proc.devRef .tc main_v15)
/-- The powers of two. -/
def powers (V : Held) : FVec Ideal S16 .f32 := V (Proc.devRef .tc main_cst)
/-- The lower end of the uniform draw. -/
def lowEnd (V : Held) : FVec Ideal S1x1x1 .f32 := V (Proc.devRef .tc main_call0_v2)
/-- The upper end of the uniform draw. -/
def highEnd (V : Held) : FVec Ideal S1x1x1 .f32 := V (Proc.devRef .tc main_call0_v3)
/-- The index the bits spell. -/
def index (V : Held) : IVec S32x8 32 := V (Proc.devRef .tc main_v20)
/-- The one-hot rows. -/
def rows (V : Held) : FVec Ideal S32x8x65536 .f32 := V (Proc.devRef .tc main_v21)
/-- The answer. -/
def answer (V : Held) : FVec Ideal S32x8x65536 .f32 := V (Proc.devRef .tc main_v65)

/-- The reference's table of weights holds the powers of two. -/
theorem power_lit (k : Fin 16) : Ideal.ofBits .f32 (lit0 k) = (((2 : ℝ) ^ k.val : ℝ) : EReal) := by
  fin_cases k <;> simp [lit0, Ideal.ofBits, Ideal.ieee, -EReal.coe_mul, -EReal.coe_pow] <;> norm_num

/-- The place of an entry in a table of one axis is its index. -/
theorem rowMajor_flat (k : Fin 16) : S16.rowMajor (ix1 k) = k := by
  exact Fin.ext (rowMajor_val1 _)

/-- The first key word is zero. -/
theorem start_keyA (V : Held) : keyA (after start V) = 0#32 := by
  unfold keyA start
  simp only [line, line0, uniform, cipher, cipher0, cipher1, cipher2, cipher3, List.cons_append, List.nil_append,
    List.take_succ_cons, List.take_zero]
  after_reads_at
  after_reads_at
  rfl

/-- The second key word is the seed. -/
theorem start_keyB (V : Held) : keyB (after start V) = key1 := by
  unfold keyB start
  simp only [line, line0, uniform, cipher, cipher0, cipher1, cipher2, cipher3, List.cons_append, List.nil_append,
    List.take_succ_cons, List.take_zero]
  after_reads_at
  after_reads_at
  rfl

/-- The counters' lower halves. -/
theorem start_lower (V : Held) (j : S32x8x16.Idx) :
    lower (after start V) j = counter ((j 0).val * 8 + (j 1).val) (j 2) := by
  unfold lower start
  simp only [line, line0, uniform, cipher, cipher0, cipher1, cipher2, cipher3, List.cons_append, List.nil_append,
    List.take_succ_cons, List.take_zero]
  after_reads_at
  exact counter_low (j 0) (j 1) (j 2)

/-- The counters' upper halves. -/
theorem start_upper (V : Held) (j : S32x8x16.Idx) : upper (after start V) j = 0#32 := by
  unfold upper start
  simp only [line, line0, uniform, cipher, cipher0, cipher1, cipher2, cipher3, List.cons_append, List.nil_append,
    List.take_succ_cons, List.take_zero]
  after_reads_at
  exact counter_high (j 0) (j 1) (j 2)

/-- The weights. -/
theorem start_powers (V : Held) (k : Fin 16) :
    powers (after start V) (ix1 k) = (((2 : ℝ) ^ k.val : ℝ) : EReal) := by
  unfold powers start
  simp only [line, line0, uniform, cipher, cipher0, cipher1, cipher2, cipher3, List.cons_append, List.nil_append,
    List.take_succ_cons, List.take_zero]
  after_reads_at
  rw [rowMajor_flat, power_lit]

/-- The draw starts at zero. -/
theorem start_lowEnd (V : Held) (j : S1x1x1.Idx) : lowEnd (after start V) j = 0 := by
  unfold lowEnd start
  simp only [line, line0, uniform, cipher, cipher0, cipher1, cipher2, cipher3, List.cons_append, List.nil_append,
    List.take_succ_cons, List.take_zero]
  after_reads_at
  exact Ideal.ofBits_zero_f32

/-- The draw ends at one. -/
theorem start_highEnd (V : Held) (j : S1x1x1.Idx) : highEnd (after start V) j = 1 := by
  unfold highEnd start
  simp only [line, line0, uniform, cipher, cipher0, cipher1, cipher2, cipher3, List.cons_append, List.nil_append,
    List.take_succ_cons, List.take_zero]
  after_reads_at
  exact Ideal.ofBits_one_f32

/-- The probabilities are the logits' logistic values. -/
theorem start_probs (V : Held) (j : S32x8x16.Idx) : probs (after start V) j = Ideal.logistic (logits V j) := by
  unfold probs start logits
  simp only [line, line0, uniform, cipher, cipher0, cipher1, cipher2, cipher3, List.cons_append, List.nil_append,
    List.take_succ_cons, List.take_zero]
  after_reads_at
  rfl

/-- The cipher leaves the other values as they are. -/
theorem cipher_keeps (V : Held) : probs (after cipher.1 V) = probs V ∧ powers (after cipher.1 V) = powers V ∧
    lowEnd (after cipher.1 V) = lowEnd V ∧ highEnd (after cipher.1 V) = highEnd V := by
  unfold probs powers lowEnd highEnd
  simp only [line, line0, uniform, cipher, cipher0, cipher1, cipher2, cipher3, List.cons_append, List.nil_append,
    List.take_succ_cons, List.take_zero]
  refine ⟨?_, ?_, ?_, ?_⟩ <;> after_reads_simp

/-- The bits drawn, where the cipher left a counter's word. -/
theorem sample_bits (V : Held) (j : S32x8x16.Idx) (lo : BitVec 32) (x : EReal) (h5 : out5 V j = state5 lo)
    (h0 : ∀ i, lowEnd V i = 0) (h1 : ∀ i, highEnd V i = 1) (hp : probs V j = Ideal.logistic x) :
    bits (after sample V) j = (((bit lo x : ℕ) : ℝ) : EReal) := by
  have e0 := h0 (ix3 0 0 0)
  have e1 := h1 (ix3 0 0 0)
  have ea := congrArg Prod.fst h5
  have eb := congrArg Prod.snd h5
  unfold out5 at ea eb
  unfold lowEnd at e0
  unfold highEnd at e1
  unfold probs at hp
  unfold bits sample
  simp only [line, line0, line1, uniform, onehot, cipher, cipher0, cipher1, cipher2, cipher3, List.cons_append,
    List.nil_append, List.take_succ_cons, List.take_zero, List.drop_succ_cons, List.drop_zero]
  after_reads_at
  dsimp only at ea eb
  rw [e0, e1, hp, ea, eb]
  refine bit_entry lo x _ ?_
  change max (0 : EReal) ((Ideal.ofBits .f32 (pattern lo) - 1) * (1 - 0) + 0) < Ideal.logistic x ↔ _
  rw [stretch]
  rfl

/-- The stage of the sampled bits leaves the other values as they are. -/
theorem sample_keeps (V : Held) : probs (after sample V) = probs V ∧ powers (after sample V) = powers V := by
  unfold probs powers sample
  simp only [line, line0, line1, uniform, onehot, cipher, cipher0, cipher1, cipher2, cipher3, List.cons_append,
    List.nil_append, List.take_succ_cons, List.take_zero, List.drop_succ_cons, List.drop_zero]
  refine ⟨?_, ?_⟩ <;> after_reads_simp

/-- The index is the sum of the bits by their weights, as an integer. -/
theorem spell_index (V : Held) (b : Fin 32) (s : Fin 8) :
    index (after spell V) (ix2 b s) = Ideal.fptosi 32 (∑ h : Fin 16, bits V (ix3 b s h) * powers V (ix1 h)) := by
  unfold index spell bits powers
  simp only [line, line0, line1, uniform, onehot, cipher, cipher0, cipher1, cipher2, cipher3, List.cons_append,
    List.nil_append, List.take_succ_cons, List.take_zero, List.drop_succ_cons, List.drop_zero]
  after_reads_at
  rfl

/-- The stage of the index leaves the other values as they are. -/
theorem spell_keeps (V : Held) : probs (after spell V) = probs V ∧ bits (after spell V) = bits V := by
  unfold probs bits spell
  simp only [line, line0, line1, uniform, onehot, cipher, cipher0, cipher1, cipher2, cipher3, List.cons_append,
    List.nil_append, List.take_succ_cons, List.take_zero, List.drop_succ_cons, List.drop_zero]
  refine ⟨?_, ?_⟩ <;> after_reads_simp

/-- A row compares its places with the index. -/
theorem mark_rows (V : Held) (j : S32x8x65536.Idx) :
    rows (after mark V) j =
      FloatOps.uitofp (F := Ideal) .f32 (IntOp.cmpi .eq (index V (ix2 (j 0) (j 1))) (BitVec.ofNat 32 (j 2).val)) := by
  unfold rows mark index
  simp only [line, line0, line1, uniform, onehot, cipher, cipher0, cipher1, cipher2, cipher3, List.cons_append,
    List.nil_append, List.take_succ_cons, List.take_zero, List.drop_succ_cons, List.drop_zero]
  after_reads_at

/-- The stage of the rows leaves the other values as they are. -/
theorem mark_keeps (V : Held) : probs (after mark V) = probs V ∧ bits (after mark V) = bits V := by
  unfold probs bits mark
  simp only [line, line0, line1, uniform, onehot, cipher, cipher0, cipher1, cipher2, cipher3, List.cons_append,
    List.nil_append, List.take_succ_cons, List.take_zero, List.drop_succ_cons, List.drop_zero]
  refine ⟨?_, ?_⟩ <;> after_reads_simp

/-- Adding the difference of real numbers with themselves changes nothing. -/
theorem add_nothing {s : Shape} (r t : FVec Ideal s .f32) (ht : ∀ i, IsReal (t i)) (j : s.Idx) :
    addf r (subf t t) j = r j := by
  show r j + (t j - t j) = r j
  rw [sub_self_real (ht j), add_zero]

/-- The answer is the one-hot rows: the term which carries the gradient is real and is taken away from itself. -/
theorem finale_answer (V : Held) (hp : ∀ j, ∃ x, probs V j = Ideal.logistic x) (hb : ∀ j, IsReal (bits V j))
    (j : S32x8x65536.Idx) : answer (after finale V) j = rows V j := by
  unfold answer finale
  simp only [line, line0, line1, uniform, onehot, cipher, cipher0, cipher1, cipher2, cipher3, List.cons_append,
    List.nil_append, List.take_succ_cons, List.take_zero, List.drop_succ_cons, List.drop_zero]
  after_reads_simp
  refine add_nothing (rows V) _ (fun i => Routing.scatter_forall _ _ IsReal (fun _ _ _ h => h) _ _ _ ?_ ?_ i) j
  · intro i
    pointwise
    exact ⟨0, rfl⟩
  · intro i
    pointwise
    refine real_exp (real_sum _ _ fun h => ?_)
    obtain ⟨x, hx⟩ := hp (ix3 (i 0) (i 1) h)
    obtain ⟨r, h0, h1, hr⟩ := logistic_real x
    have hv : V (Proc.devRef .tc main_v5) (ix3 (i 0) (i 1) h) = (r : EReal) := hx.trans hr
    have h1' : (1 : EReal) - (r : EReal) = ((1 - r : ℝ) : EReal) := (EReal.coe_sub 1 r).symm
    rw [hv, h1']
    exact real_add (real_mul (hb _) (log_guard h0))
      (real_mul (real_sub ⟨1, rfl⟩ (hb _)) (log_guard (sub_nonneg.mpr h1)))

end Cert.Proof
-- ==== Proof.RefValue.lean ====
module

public import proofs.«01_k».proof.Proof.RefRead
public import Idealize.ShloMosaic.Lib.Quiescent

@[expose] public section

set_option maxRecDepth 16384

noncomputable section

/-! # The reference's run

The stages put together: every entry the reference leaves, and the run that leaves it. -/

namespace Cert.Proof

open Idealize Idealize.ShloMosaic Idealize.SL.Sem Idealize.ShloMosaic.StableHlo Cert.ReferenceIdeal

/-- The array both programs compute: row by row, the one-hot row at the number the drawn bits spell. -/
def expected (x : FVec Ideal S32x8x16 .f32) : FVec Ideal S32x8x65536 .f32 := fun j =>
  hot (code (counter ((j 0).val * 8 + (j 1).val)) fun h => x (ix3 (j 0) (j 1) h)) (j 2).val

/-- What all the operations leave is the expected array. -/
theorem line_answer (V : Held) : answer (after line V) = expected (logits V) := by
  funext j
  rw [line_stages, after_app, after_app, after_app, after_app, after_app]
  set V1 := after start V with hV1
  set V2 := after cipher.1 V1 with hV2
  set V3 := after sample V2 with hV3
  set V4 := after spell V3 with hV4
  set V5 := after mark V4 with hV5
  obtain ⟨cp, cw, cl, ch⟩ := cipher_keeps V1
  obtain ⟨sp, sw⟩ := sample_keeps V2
  obtain ⟨ip, ib⟩ := spell_keeps V3
  obtain ⟨mp, mb⟩ := mark_keeps V4
  have hp2 : ∀ i, probs V2 i = Ideal.logistic (logits V i) := fun i =>
    (congrFun cp i).trans (start_probs V i)
  have hb3 : ∀ i : S32x8x16.Idx, bits V3 i =
      (((bit (counter ((i 0).val * 8 + (i 1).val) (i 2)) (logits V i) : ℕ) : ℝ) : EReal) := fun i =>
    sample_bits V2 i _ _
      ((cipher_out V1 (start_keyA V) (start_keyB V) i (start_upper V i)).trans (congrArg state5 (start_lower V i)))
      (fun k => (congrFun cl k).trans (start_lowEnd V k)) (fun k => (congrFun ch k).trans (start_highEnd V k)) (hp2 i)
  have hw3 : ∀ k : Fin 16, powers V3 (ix1 k) = (((2 : ℝ) ^ k.val : ℝ) : EReal) := fun k =>
    (congrFun (sw.trans cw) (ix1 k)).trans (start_powers V k)
  have hi4 : ∀ (b : Fin 32) (s : Fin 8), index V4 (ix2 b s) =
      BitVec.ofNat 32 (code (counter (b.val * 8 + s.val)) fun h => logits V (ix3 b s h)) := fun b s => by
    refine (spell_index V3 b s).trans ((congrArg (Ideal.fptosi 32) (Finset.sum_congr rfl fun h _ => ?_)).trans
      (fptosi_code (counter (b.val * 8 + s.val)) fun h => logits V (ix3 b s h)))
    rw [hb3, hw3]
    rfl
  have hp5 : ∀ i, ∃ x, probs V5 i = Ideal.logistic x := fun i =>
    ⟨_, (congrFun (mp.trans (ip.trans sp)) i).trans (hp2 i)⟩
  have hb5 : ∀ i, IsReal (bits V5 i) := fun i => ⟨_, (congrFun (mb.trans ib) i).trans (hb3 i)⟩
  refine (finale_answer V5 hp5 hb5 j).trans ((mark_rows V4 j).trans ?_)
  refine (congrArg (fun w => FloatOps.uitofp (F := Ideal) .f32 (IntOp.cmpi .eq w (BitVec.ofNat 32 (j 2).val)))
    (hi4 (j 0) (j 1))).trans ?_
  exact hot_entry (code_lt _ _) (j 2).isLt

/-- No operation writes the logits. -/
theorem line_logits (V : Held) : logits (after line V) = logits V := by
  unfold logits
  simp only [line, line0, line1, uniform, onehot, cipher, cipher0, cipher1, cipher2, cipher3, List.cons_append,
    List.nil_append]
  after_reads_simp

/-- Every operation's buffers are the chip's. -/
theorem line_bufs : line.Forall fun op => op.bufs ⊆ tcRefs τ sig := by
  simp [line, line0, line1, uniform, onehot, cipher, cipher0, cipher1, cipher2, cipher3]

/-- Every operation determines its result. -/
theorem line_fresh : ∀ op ∈ line, op.fresh = ∅ := by
  intro op h
  simp only [line, line0, line1, uniform, onehot, cipher, cipher0, cipher1, cipher2, cipher3, List.cons_append,
    List.nil_append] at h
  repeat (cases h with | head => rfl | tail _ h => ?_)
  exact nomatch h

/-- The reference's run: the expected array, and the logits as they were. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v65) = expected (m ((c.tc : Thread nD τ).loc main_arg0))
      ∧ r.2.mem ((c.tc : Thread nD τ).loc main_arg0) = m ((c.tc : Thread nD τ).loc main_arg0)) := by
  refine θ_run_mono (run_hlo defs main (ops := line) line_main (by decide) (by decide) line_bufs line_fresh m ρ) fun r hr c => ⟨?_, ?_⟩
  · exact (hr c main_v65).trans (line_answer _)
  · exact (hr c main_arg0).trans (line_logits _)

/-- The reference ends with its argument as it was and no counter raised: it has no counters. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_mono (reference_run m ρ) fun r hr => ⟨fun c => (hr c).2, sem_eq_zero_of_no_sems (by decide) r.2⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The two programs' descriptions of the result are the same array. -/
theorem same_result (x : FVec Ideal Cert.KernelIdeal.S32x8x16 .f32) : expected x = result x := rfl

/-- The kernel and the reference leave the same array, and each its argument as it was. -/
theorem programs_agree : @Cert.algebraic_KernelIdeal_ReferenceIdeal Cert.KernelIdeal.Gen.facts Cert.ReferenceIdeal.Gen.facts := by
  intro m g m' g' _ hagree
  refine ⟨fun c => result (m ((c.tc : Thread Cert.KernelIdeal.nD Cert.KernelIdeal.τ).loc Cert.KernelIdeal.main_arg0)),
    run_value m g, θ_run_mono (reference_run m' g') fun r hr c => ⟨(hr c).1.trans ?_, (hr c).2⟩⟩
  exact (congrArg expected (hagree c)).trans (same_result _)

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => reference_frame m ρ, trivial, programs_agree⟩

end Cert.Proof

end
